-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 1024, 16, 64]⟩ ⟨4, ![2, 1024, 32, 64]⟩ (Layout.meshBlock [2, 4, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨3, ![2, 512, 2048]⟩ ⟨3, ![2, 1024, 2048]⟩ (Layout.meshBlock [2, 4, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x64 : Shape := ⟨4, ![2, 1024, 16, 64]⟩
abbrev S1024x2048 : Shape := ⟨2, ![1024, 2048]⟩
abbrev S2x16x64x1024 : Shape := ⟨4, ![2, 16, 64, 1024]⟩
abbrev S2x1024x1024 : Shape := ⟨3, ![2, 1024, 1024]⟩
abbrev S2x512x2048 : Shape := ⟨3, ![2, 512, 2048]⟩
abbrev S10 : Shape := ⟨1, ![10]⟩
abbrev S2 : Shape := ⟨1, ![2]⟩
abbrev S4 : Shape := ⟨1, ![4]⟩
abbrev S_ : Shape := ⟨0, ![]⟩
abbrev S1 : Shape := ⟨1, ![1]⟩
abbrev S1024x512 : Shape := ⟨2, ![1024, 512]⟩
abbrev S1x1024x1024 : Shape := ⟨3, ![1, 1024, 1024]⟩
abbrev S1024x1024 : Shape := ⟨2, ![1024, 1024]⟩
abbrev S1x1024x128 : Shape := ⟨3, ![1, 1024, 128]⟩
abbrev S1024x128 : Shape := ⟨2, ![1024, 128]⟩
abbrev S128x512 : Shape := ⟨2, ![128, 512]⟩
abbrev S1x128x512 : Shape := ⟨3, ![1, 128, 512]⟩
abbrev S128x1024 : Shape := ⟨2, ![128, 1024]⟩
abbrev S1x128x1024 : Shape := ⟨3, ![1, 128, 1024]⟩
abbrev S128x2048 : Shape := ⟨2, ![128, 2048]⟩
abbrev S1x128x2048 : Shape := ⟨3, ![1, 128, 2048]⟩
abbrev S1x1024x512 : Shape := ⟨3, ![1, 1024, 512]⟩
abbrev S512x2048 : Shape := ⟨2, ![512, 2048]⟩
abbrev S1x512x2048 : Shape := ⟨3, ![1, 512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S2x1024x16x64, .f32⟩
  | .hbm, ⟨1, _⟩ => ⟨S1024x2048, .f32⟩
  | .hbm, ⟨2, _⟩ => ⟨S2x16x64x1024, .f32⟩
  | .hbm, ⟨3, _⟩ => ⟨S2x1024x1024, .f32⟩
  | .hbm, ⟨4, _⟩ => ⟨S2x512x2048, .bf16⟩
  | .local _ .vmem, ⟨0, _⟩ => ⟨S2x1024x1024, .f32⟩
  | .local _ .vmem, ⟨1, _⟩ => ⟨S1024x2048, .f32⟩
  | .local _ .vmem, ⟨2, _⟩ => ⟨S1024x2048, .bf16⟩
  | .local _ .vmem, ⟨3, _⟩ => ⟨S2x512x2048, .f32⟩
  | .local _ .vmem, ⟨4, _⟩ => ⟨S2x512x2048, .bf16⟩
  | .local _ .vmem, ⟨5, _⟩ => ⟨S2x512x2048, .bf16⟩
  | .local _ .vmem, ⟨6, _⟩ => ⟨S2x512x2048, .bf16⟩
  | _, _ => ⟨S2x1024x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_53 : BitVec 32) : Fin 3 → Nat :=
  let c0_54 : Index := 0#32
  let c0_55 : Index := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_52 : BitVec 32 := 512#32
  let v60 : BitVec 32 := Scalar.muli v9 c512_i32_52
  let v61 : BitVec 32 := Scalar.addi v60 c0_i32_53
  let v62 : Index := Scalar.indexCast v61
  ![0, 0, v62.toNat]
def k0_dev2 (d0 : Dev nD) : Nat :=
  let c0_i32_67 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_66 : BitVec 32 := 16#32
  let v72 : BitVec 32 := Scalar.muli v9 c16_i32_66
  let v73 : BitVec 32 := Scalar.addi c0_i32_67 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v74 : BitVec 32 := Scalar.muli v5 c4_i32_68
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v76 : BitVec 32 := Scalar.muli v8 c1_i32_69
  let v77 : BitVec 32 := Scalar.addi v75 v76
  v77.toNat
def k0_dev3 (d0 : Dev nD) : Nat :=
  let c0_i32_97 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_96 : BitVec 32 := 16#32
  let v107 : BitVec 32 := Scalar.muli v9 c16_i32_96
  let v108 : BitVec 32 := Scalar.addi c0_i32_97 v107
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_98 : BitVec 32 := 4#32
  let v109 : BitVec 32 := Scalar.muli v5 c4_i32_98
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v111 : BitVec 32 := Scalar.muli v8 c1_i32_99
  let v112 : BitVec 32 := Scalar.addi v110 v111
  v112.toNat
def k0_dev4 (d0 : Dev nD) : Nat :=
  let c0_i32_135 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_134 : BitVec 32 := 16#32
  let v151 : BitVec 32 := Scalar.muli v9 c16_i32_134
  let v152 : BitVec 32 := Scalar.addi c0_i32_135 v151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_136 : BitVec 32 := 4#32
  let v153 : BitVec 32 := Scalar.muli v5 c4_i32_136
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v155 : BitVec 32 := Scalar.muli v8 c1_i32_137
  let v156 : BitVec 32 := Scalar.addi v154 v155
  v156.toNat
def k0_dev5 (d0 : Dev nD) : Nat :=
  let c0_i32_155 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_154 : BitVec 32 := 16#32
  let v177 : BitVec 32 := Scalar.muli v9 c16_i32_154
  let v178 : BitVec 32 := Scalar.addi c0_i32_155 v177
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_156 : BitVec 32 := 4#32
  let v179 : BitVec 32 := Scalar.muli v5 c4_i32_156
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_157 : BitVec 32 := 1#32
  let v181 : BitVec 32 := Scalar.muli v8 c1_i32_157
  let v182 : BitVec 32 := Scalar.addi v180 v181
  v182.toNat
def k0_dev6 (d0 : Dev nD) : Nat :=
  let c0_i32_175 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_174 : BitVec 32 := 16#32
  let v203 : BitVec 32 := Scalar.muli v9 c16_i32_174
  let v204 : BitVec 32 := Scalar.addi c0_i32_175 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_176 : BitVec 32 := 4#32
  let v205 : BitVec 32 := Scalar.muli v5 c4_i32_176
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v207 : BitVec 32 := Scalar.muli v8 c1_i32_177
  let v208 : BitVec 32 := Scalar.addi v206 v207
  v208.toNat
def k0_dev7 (d0 : Dev nD) : Nat :=
  let c0_i32_194 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_193 : BitVec 32 := 16#32
  let v229 : BitVec 32 := Scalar.muli v9 c16_i32_193
  let v230 : BitVec 32 := Scalar.addi c0_i32_194 v229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_195 : BitVec 32 := 4#32
  let v231 : BitVec 32 := Scalar.muli v5 c4_i32_195
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v233 : BitVec 32 := Scalar.muli v8 c1_i32_196
  let v234 : BitVec 32 := Scalar.addi v232 v233
  v234.toNat
def k0_off2 (d0 : Dev nD) (c0_i32_209 : BitVec 32) : Fin 3 → Nat :=
  let c1 : Index := 1#32
  let c0_210 : Index := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c512_i32_208 : BitVec 32 := 512#32
  let v249 : BitVec 32 := Scalar.muli v9 c512_i32_208
  let v250 : BitVec 32 := Scalar.addi v249 c0_i32_209
  let v251 : Index := Scalar.indexCast v250
  ![1, 0, v251.toNat]
def k0_dev8 (d0 : Dev nD) : Nat :=
  let c0_i32_221 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_220 : BitVec 32 := 16#32
  let v261 : BitVec 32 := Scalar.muli v9 c16_i32_220
  let v262 : BitVec 32 := Scalar.addi c0_i32_221 v261
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_222 : BitVec 32 := 4#32
  let v263 : BitVec 32 := Scalar.muli v5 c4_i32_222
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v265 : BitVec 32 := Scalar.muli v8 c1_i32_223
  let v266 : BitVec 32 := Scalar.addi v264 v265
  v266.toNat
def k0_dev9 (d0 : Dev nD) : Nat :=
  let c0_i32_242 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_241 : BitVec 32 := 16#32
  let v287 : BitVec 32 := Scalar.muli v9 c16_i32_241
  let v288 : BitVec 32 := Scalar.addi c0_i32_242 v287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v289 : BitVec 32 := Scalar.muli v5 c4_i32_243
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v291 : BitVec 32 := Scalar.muli v8 c1_i32_244
  let v292 : BitVec 32 := Scalar.addi v290 v291
  v292.toNat
def k0_dev10 (d0 : Dev nD) : Nat :=
  let c0_i32_263 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_262 : BitVec 32 := 16#32
  let v313 : BitVec 32 := Scalar.muli v9 c16_i32_262
  let v314 : BitVec 32 := Scalar.addi c0_i32_263 v313
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_264 : BitVec 32 := 4#32
  let v315 : BitVec 32 := Scalar.muli v5 c4_i32_264
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_265 : BitVec 32 := 1#32
  let v317 : BitVec 32 := Scalar.muli v8 c1_i32_265
  let v318 : BitVec 32 := Scalar.addi v316 v317
  v318.toNat
def k0_dev11 (d0 : Dev nD) : Nat :=
  let c0_i32_284 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_283 : BitVec 32 := 16#32
  let v339 : BitVec 32 := Scalar.muli v9 c16_i32_283
  let v340 : BitVec 32 := Scalar.addi c0_i32_284 v339
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_285 : BitVec 32 := 4#32
  let v341 : BitVec 32 := Scalar.muli v5 c4_i32_285
  let v342 : BitVec 32 := Scalar.addi v340 v341
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_286 : BitVec 32 := 1#32
  let v343 : BitVec 32 := Scalar.muli v8 c1_i32_286
  let v344 : BitVec 32 := Scalar.addi v342 v343
  v344.toNat
def k0_off3 (d0 : Dev nD) : Fin 3 → Nat :=
  let c0_292 : Index := 0#32
  let c0_293 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_291 : BitVec 32 := 512#32
  let v353 : BitVec 32 := Scalar.muli v2 c512_i32_291
  let v354 : Index := Scalar.indexCast v353
  ![0, 0, v354.toNat]
def k0_off4 (d0 : Dev nD) : Fin 3 → Nat :=
  let c1_301 : Index := 1#32
  let c0_302 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_300 : BitVec 32 := 512#32
  let v363 : BitVec 32 := Scalar.muli v2 c512_i32_300
  let v364 : Index := Scalar.indexCast v363
  ![1, 0, v364.toNat]
-- ==== ReferenceIdeal.lean ====
abbrev S2x1024x32x64 : Shape := ⟨4, ![2, 1024, 32, 64]⟩
abbrev S2048x2048 : Shape := ⟨2, ![2048, 2048]⟩
abbrev S2x1024x2048 : Shape := ⟨3, ![2, 1024, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x1024x32x64, .f32⟩
  | .hbm, ⟨1, _⟩ => ⟨S2048x2048, .f32⟩
  | .hbm, ⟨2, _⟩ => ⟨S2x1024x2048, .f32⟩
  | .hbm, ⟨3, _⟩ => ⟨S2x1024x2048, .f32⟩
  | .hbm, ⟨4, _⟩ => ⟨S2x1024x2048, .bf16⟩
  | _, _ => ⟨S2x1024x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Protocol.lean ====
module

public import proofs.«01_k».proof.Proof.Gen.KernelIdeal.Frame
public import proofs.«01_k».proof.Proof.Gen.KernelIdeal.Skeleton
public import Idealize.ShloMosaic.Lib.Pipeline.RegionTalk
public import Idealize.ShloMosaic.Lib.Rounds
public import Idealize.ShloMosaic.Lib.HeldBySlice

@[expose] public section

set_option maxRecDepth 16384

noncomputable section

/-!
# The protocol of the exchange

Each device has one peer, the device at the other coordinate of the mesh's first axis. A device hands its receive
buffer to the peer with one barrier signal, block by block; once the peer's signal has come it writes ten blocks of
partial products into the peer's receive buffer, each on its own pair of semaphores.

The cells of a device `c`:
* the barrier: one unit, from the peer, carrying the peer's ten receive blocks;
* receive semaphore `i`: the bytes of block `i`, carrying `c`'s own receive block `i`, filled with what the peer sent;
* send semaphore `i`: the same bytes, carrying `c`'s own send block `i` back.
-/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev UU : Type := UR sig nD τ × (UR sig nD τ × Counters)
local notation "𝕄" => MT nD τ sig Unit (Elt F) ℕ UU ℕ
/-- The launch machinery's copy of the rounds algebra, and the exchange's. -/
abbrev EP : Emb (UR sig nD τ) (MT nD τ sig Unit (Elt F) ℕ UU ℕ) := embL
abbrev ER : Emb (UR sig nD τ) (MT nD τ sig Unit (Elt F) ℕ UU ℕ) := (Emb.inl : Emb (UR sig nD τ) (UR sig nD τ × Counters)).trans embR

abbrev 𝒱₀ : Variants := Variants.none

/-! ## The peer -/

/-- The device at the other coordinate of axis `x`. -/
def peer (c : Dev nD) : Dev nD := ⟨(c.val + 16) % 32, Nat.mod_lt _ (by decide)⟩
theorem peer_peer (c : Dev nD) : peer (peer c) = c := by revert c; decide
def swap : Dev nD ≃ Dev nD := ⟨peer, peer, peer_peer, peer_peer⟩
theorem dev1_eq (c : Dev nD) : (⟨k0_dev1 c, k0_dev1_lt c⟩ : Dev nD) = peer c := by
  have hc := c.isLt
  refine Fin.ext ?_
  show k0_dev1 c = (c.val + 16) % 32
  rw [k0_dev1_eq c]; change c.val < 32 at hc; omega
theorem dev2_eq (c : Dev nD) : (⟨k0_dev2 c, k0_dev2_lt c⟩ : Dev nD) = peer c := by
  have hc := c.isLt
  refine Fin.ext ?_
  show k0_dev2 c = (c.val + 16) % 32
  rw [k0_dev2_eq c]; change c.val < 32 at hc; omega
theorem dev3_eq (c : Dev nD) : (⟨k0_dev3 c, k0_dev3_lt c⟩ : Dev nD) = peer c := by
  have hc := c.isLt
  refine Fin.ext ?_
  show k0_dev3 c = (c.val + 16) % 32
  rw [k0_dev3_eq c]; change c.val < 32 at hc; omega
theorem dev4_eq (c : Dev nD) : (⟨k0_dev4 c, k0_dev4_lt c⟩ : Dev nD) = peer c := by
  have hc := c.isLt
  refine Fin.ext ?_
  show k0_dev4 c = (c.val + 16) % 32
  rw [k0_dev4_eq c]; change c.val < 32 at hc; omega
theorem dev5_eq (c : Dev nD) : (⟨k0_dev5 c, k0_dev5_lt c⟩ : Dev nD) = peer c := by
  have hc := c.isLt
  refine Fin.ext ?_
  show k0_dev5 c = (c.val + 16) % 32
  rw [k0_dev5_eq c]; change c.val < 32 at hc; omega
theorem dev6_eq (c : Dev nD) : (⟨k0_dev6 c, k0_dev6_lt c⟩ : Dev nD) = peer c := by
  have hc := c.isLt
  refine Fin.ext ?_
  show k0_dev6 c = (c.val + 16) % 32
  rw [k0_dev6_eq c]; change c.val < 32 at hc; omega
theorem dev7_eq (c : Dev nD) : (⟨k0_dev7 c, k0_dev7_lt c⟩ : Dev nD) = peer c := by
  have hc := c.isLt
  refine Fin.ext ?_
  show k0_dev7 c = (c.val + 16) % 32
  rw [k0_dev7_eq c]; change c.val < 32 at hc; omega
theorem dev8_eq (c : Dev nD) : (⟨k0_dev8 c, k0_dev8_lt c⟩ : Dev nD) = peer c := by
  have hc := c.isLt
  refine Fin.ext ?_
  show k0_dev8 c = (c.val + 16) % 32
  rw [k0_dev8_eq c]; change c.val < 32 at hc; omega
theorem dev9_eq (c : Dev nD) : (⟨k0_dev9 c, k0_dev9_lt c⟩ : Dev nD) = peer c := by
  have hc := c.isLt
  refine Fin.ext ?_
  show k0_dev9 c = (c.val + 16) % 32
  rw [k0_dev9_eq c]; change c.val < 32 at hc; omega
theorem dev10_eq (c : Dev nD) : (⟨k0_dev10 c, k0_dev10_lt c⟩ : Dev nD) = peer c := by
  have hc := c.isLt
  refine Fin.ext ?_
  show k0_dev10 c = (c.val + 16) % 32
  rw [k0_dev10_eq c]; change c.val < 32 at hc; omega
theorem dev11_eq (c : Dev nD) : (⟨k0_dev11 c, k0_dev11_lt c⟩ : Dev nD) = peer c := by
  have hc := c.isLt
  refine Fin.ext ?_
  show k0_dev11 c = (c.val + 16) % 32
  rw [k0_dev11_eq c]; change c.val < 32 at hc; omega

/-! ## Buffers and their blocks -/

abbrev sM : Memref sig .tc .vmem S2x512x2048 .bf16 := Memref.whole cc0_scratch5
abbrev rM : Memref sig .tc .vmem S2x512x2048 .bf16 := Memref.whole cc0_scratch6
abbrev oM : Memref sig .tc .vmem S2x512x2048 .bf16 := Memref.whole cc0_scratch4
abbrev aM : Memref sig .tc .vmem S2x512x2048 .f32 := Memref.whole cc0_scratch3
abbrev hM : Memref sig .tc .vmem S1024x2048 .bf16 := Memref.whole cc0_scratch2
abbrev fM : Memref sig .tc .vmem S1024x2048 .f32 := Memref.whole cc0_scratch1
abbrev tM : Memref sig .tc .vmem S2x1024x1024 .f32 := Memref.whole cc0_scratch0
abbrev zM : Memref sig .tc .hbm S2x512x2048 .bf16 := Memref.whole main_v3
abbrev xM : Memref sig .tc .hbm S2x1024x1024 .f32 := Memref.whole main_v2
abbrev wM : Memref sig .tc .hbm S1024x2048 .f32 := Memref.whole main_arg1

/-- What a buffer of blocks holds, and what the two operands hold. -/
abbrev Blk (F : FTy → Type) : Type := S2x512x2048.Idx → Elt F .bf16
abbrev Xs (F : FTy → Type) : Type := S2x1024x1024.Idx → Elt F .f32
abbrev Ws (F : FTy → Type) : Type := S1024x2048.Idx → Elt F .f32

/-! The ten blocks of a `2×512×2048` buffer, in the order they are sent. -/
abbrev R0 : Rect S2x512x2048 := Rect.unit (s := S2x512x2048) ![0, 0, 0] S1x128x512.size inb_S2x512x2048_S1x128x512_0_0_0
abbrev R1 : Rect S2x512x2048 := Rect.unit (s := S2x512x2048) ![0, 0, 512] S1x128x512.size inb_S2x512x2048_S1x128x512_0_0_512
abbrev R2 : Rect S2x512x2048 := Rect.unit (s := S2x512x2048) ![0, 0, 1024] S1x128x1024.size inb_S2x512x2048_S1x128x1024_0_0_1024
abbrev R3 : Rect S2x512x2048 := Rect.unit (s := S2x512x2048) ![0, 128, 0] S1x128x2048.size inb_S2x512x2048_S1x128x2048_0_128_0
abbrev R4 : Rect S2x512x2048 := Rect.unit (s := S2x512x2048) ![0, 256, 0] S1x128x2048.size inb_S2x512x2048_S1x128x2048_0_256_0
abbrev R5 : Rect S2x512x2048 := Rect.unit (s := S2x512x2048) ![0, 384, 0] S1x128x2048.size inb_S2x512x2048_S1x128x2048_0_384_0
abbrev R6 : Rect S2x512x2048 := Rect.unit (s := S2x512x2048) ![1, 0, 0] S1x128x2048.size inb_S2x512x2048_S1x128x2048_1_0_0
abbrev R7 : Rect S2x512x2048 := Rect.unit (s := S2x512x2048) ![1, 128, 0] S1x128x2048.size inb_S2x512x2048_S1x128x2048_1_128_0
abbrev R8 : Rect S2x512x2048 := Rect.unit (s := S2x512x2048) ![1, 256, 0] S1x128x2048.size inb_S2x512x2048_S1x128x2048_1_256_0
abbrev R9 : Rect S2x512x2048 := Rect.unit (s := S2x512x2048) ![1, 384, 0] S1x128x2048.size inb_S2x512x2048_S1x128x2048_1_384_0
def R : Fin 10 → Rect S2x512x2048
  | 0 => R0
  | 1 => R1
  | 2 => R2
  | 3 => R3
  | 4 => R4
  | 5 => R5
  | 6 => R6
  | 7 => R7
  | 8 => R8
  | 9 => R9
/-! The four column quarters of the weight, and the two batches of the activation. -/
abbrev Q0 : Rect S1024x2048 := Rect.unit (s := S1024x2048) ![0, 0] S1024x512.size inb_S1024x2048_S1024x512_0_0
abbrev Q1 : Rect S1024x2048 := Rect.unit (s := S1024x2048) ![0, 512] S1024x512.size inb_S1024x2048_S1024x512_0_512
abbrev Q2 : Rect S1024x2048 := Rect.unit (s := S1024x2048) ![0, 1024] S1024x512.size inb_S1024x2048_S1024x512_0_1024
abbrev Q3 : Rect S1024x2048 := Rect.unit (s := S1024x2048) ![0, 1536] S1024x512.size inb_S1024x2048_S1024x512_0_1536
abbrev B0 : Rect S2x1024x1024 := Rect.unit (s := S2x1024x1024) ![0, 0, 0] S1x1024x1024.size inb_S2x1024x1024_S1x1024x1024_0_0_0
abbrev B1 : Rect S2x1024x1024 := Rect.unit (s := S2x1024x1024) ![1, 0, 0] S1x1024x1024.size inb_S2x1024x1024_S1x1024x1024_1_0_0

/-- Part of a buffer held, and a whole buffer held. -/
abbrev hpt {sp : Space} {s : Shape} {e : EltTy} (c : Dev nD) (M : Memref sig .tc sp s e) (r : Rect s) (f : Buf (Elt F) (M.view.loc (c : Thread nD τ))) : sProp 𝕄 :=
  M.view.loc (c : Thread nD τ) ↦[M.view.setOn r.set]{fullShare} f
abbrev wpt {sp : Space} {s : Shape} {e : EltTy} (c : Dev nD) (M : Memref sig .tc sp s e) (f : Buf (Elt F) (M.view.loc (c : Thread nD τ))) : sProp 𝕄 :=
  M.view.loc (c : Thread nD τ) ↦{fullShare} f

/-! ## Cells and amounts -/

abbrev dsem (k : Fin 36) : DmaSem sig := k
abbrev sendS (i : Fin 10) : DmaSem sig := dsem ⟨i.val, by omega⟩
abbrev recvS (i : Fin 10) : DmaSem sig := dsem ⟨10 + i.val, by omega⟩
abbrev barCell (c : Dev nD) : GSem nD τ sig := ((c : Thread nD τ), .reg barrier0)
abbrev sendCell (c : Dev nD) (i : Fin 10) : GSem nD τ sig := ((c : Thread nD τ), .dma (sendS i))
abbrev recvCell (c : Dev nD) (i : Fin 10) : GSem nD τ sig := ((c : Thread nD τ), .dma (recvS i))

/-- The views the remote copies name: block `i` of a buffer, without its leading axis. -/
abbrev blk0 (M : Memref sig .tc .vmem S2x512x2048 .bf16) : Memref sig .tc .vmem S128x512 .bf16 := (M.slice R0 (fun _ => rfl)).squeeze S128x512 squeezes_S1x128x512_S128x512
abbrev blk1 (M : Memref sig .tc .vmem S2x512x2048 .bf16) : Memref sig .tc .vmem S128x512 .bf16 := (M.slice R1 (fun _ => rfl)).squeeze S128x512 squeezes_S1x128x512_S128x512
abbrev blk2 (M : Memref sig .tc .vmem S2x512x2048 .bf16) : Memref sig .tc .vmem S128x1024 .bf16 := (M.slice R2 (fun _ => rfl)).squeeze S128x1024 squeezes_S1x128x1024_S128x1024
abbrev blk3 (M : Memref sig .tc .vmem S2x512x2048 .bf16) : Memref sig .tc .vmem S128x2048 .bf16 := (M.slice R3 (fun _ => rfl)).squeeze S128x2048 squeezes_S1x128x2048_S128x2048
abbrev blk4 (M : Memref sig .tc .vmem S2x512x2048 .bf16) : Memref sig .tc .vmem S128x2048 .bf16 := (M.slice R4 (fun _ => rfl)).squeeze S128x2048 squeezes_S1x128x2048_S128x2048
abbrev blk5 (M : Memref sig .tc .vmem S2x512x2048 .bf16) : Memref sig .tc .vmem S128x2048 .bf16 := (M.slice R5 (fun _ => rfl)).squeeze S128x2048 squeezes_S1x128x2048_S128x2048
abbrev blk6 (M : Memref sig .tc .vmem S2x512x2048 .bf16) : Memref sig .tc .vmem S128x2048 .bf16 := (M.slice R6 (fun _ => rfl)).squeeze S128x2048 squeezes_S1x128x2048_S128x2048
abbrev blk7 (M : Memref sig .tc .vmem S2x512x2048 .bf16) : Memref sig .tc .vmem S128x2048 .bf16 := (M.slice R7 (fun _ => rfl)).squeeze S128x2048 squeezes_S1x128x2048_S128x2048
abbrev blk8 (M : Memref sig .tc .vmem S2x512x2048 .bf16) : Memref sig .tc .vmem S128x2048 .bf16 := (M.slice R8 (fun _ => rfl)).squeeze S128x2048 squeezes_S1x128x2048_S128x2048
abbrev blk9 (M : Memref sig .tc .vmem S2x512x2048 .bf16) : Memref sig .tc .vmem S128x2048 .bf16 := (M.slice R9 (fun _ => rfl)).squeeze S128x2048 squeezes_S1x128x2048_S128x2048

/-- What block `i`'s copy adds to its two semaphores. -/
def N : Fin 10 → ℕ
  | 0 => (blk0 rM).view.dmaCredit
  | 1 => (blk1 rM).view.dmaCredit
  | 2 => (blk2 rM).view.dmaCredit
  | 3 => (blk3 rM).view.dmaCredit
  | 4 => (blk4 rM).view.dmaCredit
  | 5 => (blk5 rM).view.dmaCredit
  | 6 => (blk6 rM).view.dmaCredit
  | 7 => (blk7 rM).view.dmaCredit
  | 8 => (blk8 rM).view.dmaCredit
  | 9 => (blk9 rM).view.dmaCredit
theorem N_pos (i : Fin 10) : 0 < N i := by
  fin_cases i <;> exact View.dmaCredit_pos _ (by decide)

/-! ## The schedule -/

section Sched

variable (snd : Dev nD → Fin 10 → Blk F)

/-- Device `c`'s receive block `i` at contents nobody chose. -/
abbrev recvAny (c : Dev nD) (i : Fin 10) : sProp 𝕄 := iprop(∃ f, hpt c rM (R i) f)

/-- With the peer's signal come its ten receive blocks, each with the fact that its semaphore is in its first round. -/
def barPay (c : Dev nD) : sProp 𝕄 := bigSep Finset.univ fun i : Fin 10 => iprop(recvAny (F := F) (peer c) i ∗ reached ER (recvCell (peer c) i) 0)
def sendPay (c : Dev nD) (i : Fin 10) : sProp 𝕄 := hpt c sM (R i) (snd c i)
def recvPay (c : Dev nD) (i : Fin 10) : sProp 𝕄 := hpt c rM (R i) (snd (peer c) i)

/-- The cells the exchange uses, and what each carries. -/
inductive Cell | bar | send (i : Fin 10) | recv (i : Fin 10) | none
def cellOf' : SemLoc sig → Cell
  | .reg _ => .bar
  | .dma s => if h : s.val < 10 then .send ⟨s.val, h⟩ else if h : s.val < 20 then .recv ⟨s.val - 10, by omega⟩ else .none
theorem cell_bar : cellOf' (.reg barrier0) = .bar := rfl
theorem cell_send (i : Fin 10) : cellOf' (.dma (sendS i)) = .send i := by fin_cases i <;> rfl
theorem cell_recv (i : Fin 10) : cellOf' (.dma (recvS i)) = .recv i := by fin_cases i <;> rfl

def dutiesOf : Cell → Finset Unit | .none => ∅ | _ => {()}
def amountOf' : Cell → ℕ | .bar => 1 | .send i => N i | .recv i => N i | .none => 1
def payOf (c : Dev nD) : Cell → sProp 𝕄 | .bar => barPay c | .send i => sendPay snd c i | .recv i => recvPay snd c i | .none => iprop(emp)

def sched : Rounds.Schedule (GSem nD τ sig) Unit 𝕄 where
  duties g r := if r = 0 ∧ g.1.2 = .tc then dutiesOf (cellOf' g.2) else ∅
  unitless _ := False
  amount g _ _ := amountOf' (cellOf' g.2)
  payload g _ _ := payOf snd g.1.1 (cellOf' g.2)
  amount_pos g _ _ _ := by
    cases cellOf' g.2 with
    | bar => exact Nat.one_pos
    | send i => exact N_pos i
    | recv i => exact N_pos i
    | none => exact Nat.one_pos

instance sched_storable (g : GSem nD τ sig) (r : ℕ) (d : Unit) : BI.Storable (upEmb : UEmb _ 𝕄) ((sched snd).payload g r d) := by
  show BI.Storable upEmb (payOf snd g.1.1 (cellOf' g.2))
  cases cellOf' g.2 with
  | bar => show BI.Storable upEmb (barPay g.1.1); unfold barPay; infer_instance
  | send i => show BI.Storable upEmb (sendPay snd g.1.1 i); unfold sendPay; infer_instance
  | recv i => show BI.Storable upEmb (recvPay snd g.1.1 i); unfold recvPay; infer_instance
  | none => show BI.Storable upEmb iprop(emp); infer_instance

variable (c : Dev nD) (i : Fin 10) (u : Unit)

theorem duties_bar : (sched snd).duties (barCell c) 0 = {()} := by dsimp only [sched]; rw [if_pos ⟨rfl, rfl⟩, cell_bar]; rfl
theorem duties_send : (sched snd).duties (sendCell c i) 0 = {()} := by dsimp only [sched]; rw [if_pos ⟨rfl, rfl⟩, cell_send]; rfl
theorem duties_recv : (sched snd).duties (recvCell c i) 0 = {()} := by dsimp only [sched]; rw [if_pos ⟨rfl, rfl⟩, cell_recv]; rfl
theorem duties_later (g : GSem nD τ sig) : ∀ r, 1 ≤ r → (sched snd).duties g r = ∅ :=
  fun r hr => by dsimp only [sched]; exact if_neg (fun h => by omega)
theorem amount_bar : (sched snd).amount (barCell c) 0 u = 1 := by dsimp only [sched]; rw [cell_bar]; rfl
theorem amount_send : (sched snd).amount (sendCell c i) 0 u = N i := by dsimp only [sched]; rw [cell_send]; rfl
theorem amount_recv : (sched snd).amount (recvCell c i) 0 u = N i := by dsimp only [sched]; rw [cell_recv]; rfl
theorem payload_bar : (sched snd).payload (barCell c) 0 u = barPay c := by dsimp only [sched]; rw [cell_bar]; rfl
theorem payload_send : (sched snd).payload (sendCell c i) 0 u = sendPay snd c i := by dsimp only [sched]; rw [cell_send]; rfl
theorem payload_recv : (sched snd).payload (recvCell c i) 0 u = recvPay snd c i := by dsimp only [sched]; rw [cell_recv]; rfl
theorem expect_bar : (sched snd).expect (barCell c) 0 = 1 := by
  unfold Schedule.expect Schedule.amountOf; rw [duties_bar, Finset.sum_singleton, amount_bar]
theorem expect_send : (sched snd).expect (sendCell c i) 0 = N i := by
  unfold Schedule.expect Schedule.amountOf; rw [duties_send, Finset.sum_singleton, amount_send]
theorem expect_recv : (sched snd).expect (recvCell c i) 0 = N i := by
  unfold Schedule.expect Schedule.amountOf; rw [duties_recv, Finset.sum_singleton, amount_recv]
theorem rest_bar : bigSep ((sched snd).duties (barCell c) 0 \ ∅) (fun u => (sched snd).payload (barCell c) 0 u) = barPay c := by
  rw [Finset.sdiff_empty, duties_bar, bigSep_singleton, payload_bar]
theorem rest_send : bigSep ((sched snd).duties (sendCell c i) 0 \ ∅) (fun u => (sched snd).payload (sendCell c i) 0 u) = sendPay snd c i := by
  rw [Finset.sdiff_empty, duties_send, bigSep_singleton, payload_send]
theorem rest_recv : bigSep ((sched snd).duties (recvCell c i) 0 \ ∅) (fun u => (sched snd).payload (recvCell c i) 0 u) = recvPay snd c i := by
  rw [Finset.sdiff_empty, duties_recv, bigSep_singleton, payload_recv]

end Sched

/-! ## What a device owes at launch, and the levels -/

/-- Block `i`'s credit at the peer. -/
abbrev owe (c : Dev nD) (i : Fin 10) : CellTallies nD τ sig Unit := tallyAt (recvCell (peer c) i) () (N i)
/-- What is still owed when the blocks before the `k`-th have gone. -/
abbrev oweFrom (c : Dev nD) : ℕ → CellTallies nD τ sig Unit
  | 0 => 0 + owe c 9 + owe c 8 + owe c 7 + owe c 6 + owe c 5 + owe c 4 + owe c 3 + owe c 2 + owe c 1 + owe c 0
  | 1 => 0 + owe c 9 + owe c 8 + owe c 7 + owe c 6 + owe c 5 + owe c 4 + owe c 3 + owe c 2 + owe c 1
  | 2 => 0 + owe c 9 + owe c 8 + owe c 7 + owe c 6 + owe c 5 + owe c 4 + owe c 3 + owe c 2
  | 3 => 0 + owe c 9 + owe c 8 + owe c 7 + owe c 6 + owe c 5 + owe c 4 + owe c 3
  | 4 => 0 + owe c 9 + owe c 8 + owe c 7 + owe c 6 + owe c 5 + owe c 4
  | 5 => 0 + owe c 9 + owe c 8 + owe c 7 + owe c 6 + owe c 5
  | 6 => 0 + owe c 9 + owe c 8 + owe c 7 + owe c 6
  | 7 => 0 + owe c 9 + owe c 8 + owe c 7
  | 8 => 0 + owe c 9 + owe c 8
  | 9 => 0 + owe c 9
  | _ => 0
/-- At launch: all ten credits and the peer's barrier unit. -/
def O₀ (c : Dev nD) : CellTallies nD τ sig Unit := oweFrom c 0 + tallyAt (barCell (peer c)) () 1

def L (g : GSem nD τ sig) : Finset Unit := if g.1.2 = .tc then {()} else ∅
/-- Barrier cells at 1, receive cells at 2, the rest at 0. -/
def lv (g : GSem nD τ sig) (_ : Unit) : ℕ := match cellOf' g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- Only receive credits of the peer are owed. -/
def OnlyRecv (c : Dev nD) (O : CellTallies nD τ sig Unit) : Prop := ∀ g u, 0 < O g u → ∃ i, g = recvCell (peer c) i
theorem onlyRecv_owe (c : Dev nD) (i : Fin 10) : OnlyRecv c (owe c i) := fun g u hg => by
  rw [tallyAt_apply] at hg
  by_cases h : g = recvCell (peer c) i ∧ u = ()
  · exact ⟨i, h.1⟩
  · rw [if_neg h] at hg; exact absurd hg (Nat.lt_irrefl 0)
theorem onlyRecv_zero (c : Dev nD) : OnlyRecv c 0 := fun _ _ h => absurd h (Nat.lt_irrefl 0)
theorem onlyRecv_add {c : Dev nD} {O O' : CellTallies nD τ sig Unit} (h : OnlyRecv c O) (h' : OnlyRecv c O') : OnlyRecv c (O + O') := fun g u hg => by
  rw [Pi.add_apply, Finsupp.add_apply] at hg
  rcases Nat.eq_zero_or_pos (O g u) with h0 | h0
  · exact h' g u (by omega)
  · exact h g u h0
theorem onlyRecv_from (c : Dev nD) : ∀ k : Fin 10, OnlyRecv c (oweFrom c k.val) := fun k => by
  fin_cases k <;> (repeat' apply onlyRecv_add) <;> first | exact onlyRecv_zero c | exact onlyRecv_owe c _

/-- A wait below the receive cells may be made while only receive credits are owed. -/
theorem mayWait_of {c : Dev nD} {O : CellTallies nD τ sig Unit} (hO : OnlyRecv c O) (sm : SemLoc sig) (hs : lv ((c : Thread nD τ), sm) () ≤ 1) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by obtain ⟨i, rfl⟩ := hO g u hg; rw [L_tc]; exact Finset.mem_singleton_self _)
    (fun p hp => by rw [Finset.mem_singleton.mp hp]; exact hs)
    (fun g u hg => by obtain ⟨i, rfl⟩ := hO g u hg; dsimp only [lv]; rw [cell_recv]; exact Nat.one_lt_two)

end Cert.KernelIdeal.Hand

end
-- ==== Proof.Contents.lean ====
module

public import proofs.«01_k».proof.Proof.Protocol

@[expose] public section

set_option maxRecDepth 16384

noncomputable section

/-!
# What the buffers hold

`x` is a device's activation as the kernel finds it (batch, contracted index, row), `w` its rows of the weight. The
weight is kept in the short format (`W16`); a device's ten sent blocks are products of the columns of `x` that belong
to the peer's half of the rows with columns of `W16` (`sv`); its own half of the product is kept in the long format
(`acc`); a result block is its own block plus the one the peer sent (`ov`).
-/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

/-! ## The block an index lies in -/

/-- The block of a `2×512×2048` buffer an index lies in. -/
def blkOf (j : S2x512x2048.Idx) : Fin 10 :=
  if (j 0).val = 0 then
    if (j 1).val < 128 then (if (j 2).val < 512 then 0 else if (j 2).val < 1024 then 1 else 2)
    else ⟨2 + (j 1).val / 128, by have h : (j 1).val < 512 := (j 1).isLt; omega⟩
  else ⟨6 + (j 1).val / 128, by have h : (j 1).val < 512 := (j 1).isLt; omega⟩

theorem mem_unit {s : Shape} {off size : Fin s.rank → ℕ} {inb} {j : s.Idx} :
    j ∈ (Rect.unit (s := s) off size inb).set ↔ ∀ a, off a ≤ (j a).val ∧ (j a).val < off a + size a := by
  rw [LoadRect.mem_set]
  refine forall_congr' fun a => ⟨?_, ?_⟩
  · rintro ⟨k, hk, h⟩
    have h' : (j a).val = off a + 1 * k := h
    have hk' : k < size a := hk
    omega
  · rintro ⟨h1, h2⟩
    exact ⟨(j a).val - off a, by show _ < size a; omega, by show (j a).val = off a + 1 * _; omega⟩

theorem mem_R (i : Fin 10) (j : S2x512x2048.Idx) : j ∈ (R i).set ↔ blkOf j = i := by
  have h0 : (j 0).val < 2 := (j 0).isLt
  have h1 : (j 1).val < 512 := (j 1).isLt
  have h2 : (j 2).val < 2048 := (j 2).isLt
  have key : ∀ (o0 o1 o2 : ℕ) (z : Fin 3 → ℕ), (∀ a : Fin 3, (![o0, o1, o2] : Fin 3 → ℕ) a ≤ (j a).val ∧ (j a).val < (![o0, o1, o2] : Fin 3 → ℕ) a + z a)
      ↔ (o0 ≤ (j 0).val ∧ (j 0).val < o0 + z 0) ∧ (o1 ≤ (j 1).val ∧ (j 1).val < o1 + z 1) ∧ (o2 ≤ (j 2).val ∧ (j 2).val < o2 + z 2) := by
    intro o0 o1 o2 z
    constructor
    · intro h; exact ⟨h 0, h 1, h 2⟩
    · rintro ⟨a0, a1, a2⟩ a; fin_cases a; exacts [a0, a1, a2]
  rw [show (blkOf j = i) = ((blkOf j).val = i.val) from propext Fin.ext_iff]
  have hR : ∀ r : Rect S2x512x2048, ∀ off size inb, r = Rect.unit (s := S2x512x2048) off size inb →
      (j ∈ r.set ↔ ∀ a, off a ≤ (j a).val ∧ (j a).val < off a + size a) := fun r off size inb h => h ▸ mem_unit
  fin_cases i <;> refine Iff.trans (hR _ _ _ (by decide) rfl) ((key ..).trans ?_) <;>
    simp only [show S1x128x512.size 0 = 1 from rfl, show S1x128x512.size 1 = 128 from rfl, show S1x128x512.size 2 = 512 from rfl,
      show S1x128x1024.size 0 = 1 from rfl, show S1x128x1024.size 1 = 128 from rfl, show S1x128x1024.size 2 = 1024 from rfl,
      show S1x128x2048.size 0 = 1 from rfl, show S1x128x2048.size 1 = 128 from rfl, show S1x128x2048.size 2 = 2048 from rfl] <;>
    (unfold blkOf; split_ifs <;> simp <;> omega)

/-! ## Reading back what was written -/

section Views

variable {Val : EltTy → Type} [∀ e, Nonempty (Val e)] {s : Shape} {e : EltTy}

/-- Pieces that all agree with `X` leave `X` where they cover. -/
theorem canon_of_all (X : s.Idx → Val e) : ∀ (L : List (View.Piece Val s e)) (y : s.Idx), (∃ p ∈ L, y ∈ p.1.set) →
    (∀ p ∈ L, ∀ j, p.2 j = X (p.1.idx j)) → View.canon L y = X y
  | [], _, h, _ => by obtain ⟨_, hm, _⟩ := h; exact absurd hm List.not_mem_nil
  | p :: L, y, h, hX => by
    by_cases hy : y ∈ p.1.set
    · obtain ⟨r, v⟩ := p
      obtain ⟨k, rfl⟩ : ∃ k, r.emb k = y := r.exists_idx_of_mem hy
      rw [View.canon_cons_emb]; exact hX ⟨r, v⟩ List.mem_cons_self k
    · rw [View.canon_cons_of_not_mem p L hy]
      refine canon_of_all X L y ?_ fun q hq => hX q (List.mem_cons_of_mem _ hq)
      obtain ⟨q, hq, hyq⟩ := h
      rcases List.mem_cons.mp hq with rfl | hq
      · exact absurd hyq hy
      · exact ⟨q, hq, hyq⟩

/-- So a covered load of such pieces reads `X`. -/
theorem readCov_of_all {κ : Kind} {sp : Space} (v : View sig κ sp s e) (g : v.ty.Contents Val) (L : List (View.Piece Val s e)) (B : LoadRect s)
    (hc : ∀ j, ∃ p ∈ L, B.idx j ∈ p.1.set) (hX : ∀ p ∈ L, ∀ j, p.2 j = v.read Val g (p.1.idx j)) : v.readCov L B = v.readAt Val B g := by
  rw [View.readCov_eq_canon']
  exact funext fun j => canon_of_all _ L _ (hc j) hX

theorem setOn_whole (b : Ref sig .tc) (S : Finset b.ty.shape.Idx) : (Memref.whole b).view.setOn S = S := by
  ext i; simp only [View.setOn, Finset.mem_map]; exact ⟨fun ⟨j, hj, h⟩ => h ▸ hj, fun h => ⟨i, h, rfl⟩⟩

/-- One write through a rectangle leaves its payload there, whatever was held before. -/
theorem writes_one {b : Ref sig .tc} (f : b.ty.Contents Val) (r : Rect b.ty.shape) (v v' : r.shape.Idx → Val b.ty.elt) (hv : v = v')
    (j : b.ty.shape.Idx) (hj : j ∈ (Memref.whole b).view.setOn r.set) :
    (Memref.whole b).view.writes Val f [⟨r, v⟩] j = View.canon [⟨r, v'⟩] j := by
  subst hv
  rw [setOn_whole] at hj
  have h := View.read_writes_apply_eq_canon (Memref.whole b).view f j [(⟨r, v⟩ : View.Piece Val b.ty.shape b.ty.elt)] ⟨_, List.mem_singleton_self _, hj⟩
  exact h

/-- The elements of a slice with its leading axis dropped. -/
theorem set_sq {b : Ref sig .tc} (r : Rect b.ty.shape) (hr) (s' : Shape) (h) :
    (((Memref.whole b).slice r hr).squeeze s' h).view.set = (Memref.whole b).view.setOn r.set := by
  show (((Memref.whole b).view.slice r).reshape s' _).set = _
  rw [View.set_reshape, View.set_slice]; rfl

/-- A block written with what the same block of `g` reads holds `g`. -/
theorem landed {b : Ref sig .tc} (r : Rect b.ty.shape) (hr) (s' : Shape) (h) (f g : b.ty.Contents Val) (w : s'.Idx → Val b.ty.elt)
    (hw : w = (((Memref.whole b).slice r hr).squeeze s' h).view.read Val g) (j : b.ty.shape.Idx) (hj : j ∈ (Memref.whole b).view.setOn r.set) :
    (((Memref.whole b).slice r hr).squeeze s' h).view.write Val f w Finset.univ j = g j := by
  subst hw
  rw [View.write_read_eq_piecewise]
  refine Finset.piecewise_eq_of_mem _ _ _ ?_
  show j ∈ (((Memref.whole b).slice r hr).squeeze s' h).view.set
  rw [set_sq]; exact hj

end Views

/-! ## The contents -/

/-- The columns of batch 0 (batch 1) of the activation that block `r` of the peer's rows is made from. -/
abbrev T0 (c : Dev nD) (r : Fin 4) : Rect S2x1024x1024 := Rect.unit (s := S2x1024x1024) (k0_off1 c (BitVec.ofNat 32 (128 * r.val))) S1x1024x128.size (k0_off1_inb c r)
abbrev T1 (c : Dev nD) (r : Fin 4) : Rect S2x1024x1024 := Rect.unit (s := S2x1024x1024) (k0_off2 c (BitVec.ofNat 32 (128 * r.val))) S1x1024x128.size (k0_off2_inb c r)
/-- The columns of batch 0 (batch 1) that the device's own rows are made from. -/
abbrev T2 (c : Dev nD) : Rect S2x1024x1024 := Rect.unit (s := S2x1024x1024) (k0_off3 c) S1x1024x512.size (k0_off3_inb c)
abbrev T3 (c : Dev nD) : Rect S2x1024x1024 := Rect.unit (s := S2x1024x1024) (k0_off4 c) S1x1024x512.size (k0_off4_inb c)
/-- The last two quarters of the weight, and the whole of it. -/
abbrev Q23 : Rect S1024x2048 := Rect.unit (s := S1024x2048) ![0, 1024] S1024x1024.size inb_S1024x2048_S1024x1024_0_1024
abbrev Qall : Rect S1024x2048 := Rect.unit (s := S1024x2048) ![0, 0] S1024x2048.size inb_S1024x2048_S1024x2048_0_0
/-- One batch of a `2×512×2048` buffer. -/
abbrev A0 : Rect S2x512x2048 := Rect.unit (s := S2x512x2048) ![0, 0, 0] S1x512x2048.size inb_S2x512x2048_S1x512x2048_0_0_0
abbrev A1 : Rect S2x512x2048 := Rect.unit (s := S2x512x2048) ![1, 0, 0] S1x512x2048.size inb_S2x512x2048_S1x512x2048_1_0_0

/-- The weight in the short format. -/
def W16 (w : Ws F) : S1024x2048.Idx → Elt F .bf16 := truncf .bf16 (s := S1024x2048) w bitsLt_bf16_f32

section Contents

variable (x : Dev nD → Xs F) (w : Dev nD → Ws F)

/-- What device `c` sends in block `i`. -/
def snd (c : Dev nD) : Fin 10 → Blk F
  | 0 => View.canon (Val := Elt F) [⟨R0, k0_pay2 (tM.view.readAt (Elt F) (T0 c 0).toLoadRect (x c)) (hM.view.readAt (Elt F) Q0.toLoadRect (W16 (w c)))⟩]
  | 1 => View.canon (Val := Elt F) [⟨R1, k0_pay4 (tM.view.readAt (Elt F) (T0 c 0).toLoadRect (x c)) (hM.view.readAt (Elt F) Q1.toLoadRect (W16 (w c)))⟩]
  | 2 => View.canon (Val := Elt F) [⟨R2, k0_pay7 (tM.view.readAt (Elt F) (T0 c 0).toLoadRect (x c)) (hM.view.readAt (Elt F) Q23.toLoadRect (W16 (w c)))⟩]
  | 3 => View.canon (Val := Elt F) [⟨R3, k0_pay10 (tM.view.readAt (Elt F) (T0 c 1).toLoadRect (x c)) (hM.view.readAt (Elt F) Qall.toLoadRect (W16 (w c)))⟩]
  | 4 => View.canon (Val := Elt F) [⟨R4, k0_pay10 (tM.view.readAt (Elt F) (T0 c 2).toLoadRect (x c)) (hM.view.readAt (Elt F) Qall.toLoadRect (W16 (w c)))⟩]
  | 5 => View.canon (Val := Elt F) [⟨R5, k0_pay10 (tM.view.readAt (Elt F) (T0 c 3).toLoadRect (x c)) (hM.view.readAt (Elt F) Qall.toLoadRect (W16 (w c)))⟩]
  | 6 => View.canon (Val := Elt F) [⟨R6, k0_pay10 (tM.view.readAt (Elt F) (T1 c 0).toLoadRect (x c)) (hM.view.readAt (Elt F) Qall.toLoadRect (W16 (w c)))⟩]
  | 7 => View.canon (Val := Elt F) [⟨R7, k0_pay10 (tM.view.readAt (Elt F) (T1 c 1).toLoadRect (x c)) (hM.view.readAt (Elt F) Qall.toLoadRect (W16 (w c)))⟩]
  | 8 => View.canon (Val := Elt F) [⟨R8, k0_pay10 (tM.view.readAt (Elt F) (T1 c 2).toLoadRect (x c)) (hM.view.readAt (Elt F) Qall.toLoadRect (W16 (w c)))⟩]
  | 9 => View.canon (Val := Elt F) [⟨R9, k0_pay10 (tM.view.readAt (Elt F) (T1 c 3).toLoadRect (x c)) (hM.view.readAt (Elt F) Qall.toLoadRect (W16 (w c)))⟩]

/-- Device `c`'s own half of the product, in the long format. -/
def acc (c : Dev nD) : S2x512x2048.Idx → Elt F .f32 :=
  View.canon (Val := Elt F) [⟨A1, k0_pay18 (tM.view.readAt (Elt F) (T3 c).toLoadRect (x c)) (hM.view.readAt (Elt F) Qall.toLoadRect (W16 (w c)))⟩,
    ⟨A0, k0_pay17 (k0_pay16 (tM.view.readAt (Elt F) (T2 c).toLoadRect (x c))) (hM.view.readAt (Elt F) Qall.toLoadRect (W16 (w c)))⟩]

/-- Block `i` of the result: the device's own half plus what the peer sent. -/
def out (c : Dev nD) : Fin 10 → Blk F
  | 0 => View.canon (Val := Elt F) [⟨R0, k0_pay20 (k0_pay19 (aM.view.readAt (Elt F) R0.toLoadRect (acc x w c))) (rM.view.readAt (Elt F) R0.toLoadRect (snd x w (peer c) 0))⟩]
  | 1 => View.canon (Val := Elt F) [⟨R1, k0_pay20 (k0_pay19 (aM.view.readAt (Elt F) R1.toLoadRect (acc x w c))) (rM.view.readAt (Elt F) R1.toLoadRect (snd x w (peer c) 1))⟩]
  | 2 => View.canon (Val := Elt F) [⟨R2, k0_pay24 (k0_pay23 (aM.view.readAt (Elt F) R2.toLoadRect (acc x w c))) (rM.view.readAt (Elt F) R2.toLoadRect (snd x w (peer c) 2))⟩]
  | 3 => View.canon (Val := Elt F) [⟨R3, k0_pay26 (k0_pay25 (aM.view.readAt (Elt F) R3.toLoadRect (acc x w c))) (rM.view.readAt (Elt F) R3.toLoadRect (snd x w (peer c) 3))⟩]
  | 4 => View.canon (Val := Elt F) [⟨R4, k0_pay26 (k0_pay25 (aM.view.readAt (Elt F) R4.toLoadRect (acc x w c))) (rM.view.readAt (Elt F) R4.toLoadRect (snd x w (peer c) 4))⟩]
  | 5 => View.canon (Val := Elt F) [⟨R5, k0_pay26 (k0_pay25 (aM.view.readAt (Elt F) R5.toLoadRect (acc x w c))) (rM.view.readAt (Elt F) R5.toLoadRect (snd x w (peer c) 5))⟩]
  | 6 => View.canon (Val := Elt F) [⟨R6, k0_pay26 (k0_pay25 (aM.view.readAt (Elt F) R6.toLoadRect (acc x w c))) (rM.view.readAt (Elt F) R6.toLoadRect (snd x w (peer c) 6))⟩]
  | 7 => View.canon (Val := Elt F) [⟨R7, k0_pay26 (k0_pay25 (aM.view.readAt (Elt F) R7.toLoadRect (acc x w c))) (rM.view.readAt (Elt F) R7.toLoadRect (snd x w (peer c) 7))⟩]
  | 8 => View.canon (Val := Elt F) [⟨R8, k0_pay26 (k0_pay25 (aM.view.readAt (Elt F) R8.toLoadRect (acc x w c))) (rM.view.readAt (Elt F) R8.toLoadRect (snd x w (peer c) 8))⟩]
  | 9 => View.canon (Val := Elt F) [⟨R9, k0_pay26 (k0_pay25 (aM.view.readAt (Elt F) R9.toLoadRect (acc x w c))) (rM.view.readAt (Elt F) R9.toLoadRect (snd x w (peer c) 9))⟩]

/-- The whole result of device `c`. -/
def OUT (c : Dev nD) : Blk F := fun j => out x w c (blkOf j) j

end Contents

/-! ## Whole buffers and their blocks -/

section Split

variable (c : Dev nD)

/-- The four quarters of the weight's columns, and the two batches of the activation. -/
def Q : Fin 4 → Rect S1024x2048
  | 0 => Q0
  | 1 => Q1
  | 2 => Q2
  | 3 => Q3
def Bt : Fin 2 → Rect S2x1024x1024
  | 0 => B0
  | 1 => B1
def qOf (j : S1024x2048.Idx) : Fin 4 := ⟨(j 1).val / 512, by have h : (j 1).val < 2048 := (j 1).isLt; omega⟩

theorem mem_Q (i : Fin 4) (j : S1024x2048.Idx) : j ∈ (Q i).set ↔ qOf j = i := by
  have h0 : (j 0).val < 1024 := (j 0).isLt
  have h1 : (j 1).val < 2048 := (j 1).isLt
  have hR : ∀ r : Rect S1024x2048, ∀ off size inb, r = Rect.unit (s := S1024x2048) off size inb →
      (j ∈ r.set ↔ ∀ a, off a ≤ (j a).val ∧ (j a).val < off a + size a) := fun r off size inb h => h ▸ mem_unit
  have key : ∀ o0 o1 : ℕ, (∀ a : Fin 2, (![o0, o1] : Fin 2 → ℕ) a ≤ (j a).val ∧ (j a).val < (![o0, o1] : Fin 2 → ℕ) a + S1024x512.size a)
      ↔ (o0 ≤ (j 0).val ∧ (j 0).val < o0 + 1024) ∧ (o1 ≤ (j 1).val ∧ (j 1).val < o1 + 512) := by
    intro o0 o1
    constructor
    · intro h; exact ⟨h 0, h 1⟩
    · rintro ⟨a0, a1⟩ a; fin_cases a; exacts [a0, a1]
  rw [show (qOf j = i) = ((qOf j).val = i.val) from propext Fin.ext_iff]
  fin_cases i <;> refine Iff.trans (hR _ _ _ (by decide) rfl) ((key ..).trans ?_) <;> (unfold qOf; simp; omega)

theorem mem_Bt (i : Fin 2) (j : S2x1024x1024.Idx) : j ∈ (Bt i).set ↔ j 0 = i := by
  have h0 : (j 0).val < 2 := (j 0).isLt
  have h1 : (j 1).val < 1024 := (j 1).isLt
  have h2 : (j 2).val < 1024 := (j 2).isLt
  have hR : ∀ r : Rect S2x1024x1024, ∀ off size inb, r = Rect.unit (s := S2x1024x1024) off size inb →
      (j ∈ r.set ↔ ∀ a, off a ≤ (j a).val ∧ (j a).val < off a + size a) := fun r off size inb h => h ▸ mem_unit
  have key : ∀ o0 o1 o2 : ℕ, (∀ a : Fin 3, (![o0, o1, o2] : Fin 3 → ℕ) a ≤ (j a).val ∧ (j a).val < (![o0, o1, o2] : Fin 3 → ℕ) a + S1x1024x1024.size a)
      ↔ (o0 ≤ (j 0).val ∧ (j 0).val < o0 + 1) ∧ (o1 ≤ (j 1).val ∧ (j 1).val < o1 + 1024) ∧ (o2 ≤ (j 2).val ∧ (j 2).val < o2 + 1024) := by
    intro o0 o1 o2
    constructor
    · intro h; exact ⟨h 0, h 1, h 2⟩
    · rintro ⟨a0, a1, a2⟩ a; fin_cases a; exacts [a0, a1, a2]
  rw [show (j 0 = i) = ((j 0).val = i.val) from propext Fin.ext_iff]
  fin_cases i <;> refine Iff.trans (hR _ _ _ (by decide) rfl) ((key ..).trans ?_) <;> (simp; omega)

section Family

variable {T : Type} [Fintype T] [DecidableEq T] {sp : Space} {s : Shape} {e : EltTy} (M : Memref sig .tc sp s e) (hM : M.view.set = Finset.univ)
  (r : T → Rect s) (of : s.Idx → T) (hr : ∀ t j, j ∈ (r t).set ↔ of j = t)

include hM hr in
theorem family_cover : (Finset.univ : Finset T).biUnion (fun t => M.view.setOn (r t).set) = Finset.univ := by
  refine Finset.eq_univ_iff_forall.mpr fun i => ?_
  obtain ⟨j, -, rfl⟩ := Finset.mem_map.mp (hM ▸ Finset.mem_univ i : i ∈ M.view.set)
  exact Finset.mem_biUnion.mpr ⟨of j, Finset.mem_univ _, Finset.mem_map_of_mem _ ((hr _ j).mpr rfl)⟩

include hr in
theorem family_disj (t : T) (_ : t ∈ (Finset.univ : Finset T)) (t' : T) (_ : t' ∈ (Finset.univ : Finset T)) (h : t ≠ t') :
    Disjoint (M.view.setOn (r t).set) (M.view.setOn (r t').set) :=
  (Finset.disjoint_map _).mpr (Finset.disjoint_left.mpr fun j h1 h2 => h (((hr t j).mp h1).symm.trans ((hr t' j).mp h2)))

include hM hr in
/-- A whole buffer is its blocks; -/
theorem wpt_blocks (f : Buf (Elt F) (M.view.loc (c : Thread nD τ))) : wpt c M f = bigSep Finset.univ fun t => hpt c M (r t) f := by
  show (M.view.loc (c : Thread nD τ) ↦[Finset.univ]{fullShare} f : sProp 𝕄) = _
  rw [← family_cover M hM r of hr]
  exact pointsTo_biUnion Finset.univ _ (family_disj M r of hr)

include hM hr in
/-- blocks at contents of their own make a whole buffer at contents nobody names. -/
theorem blocks_any : (bigSep Finset.univ fun t => iprop(∃ f, hpt (F := F) c M (r t) f)) ⊢ iprop(∃ f, wpt (F := F) c M f) := by
  refine (bigSep_exists_pi Finset.univ fun t f => hpt (F := F) c M (r t) f).trans (exists_elim fun fs => ?_)
  refine (pointsTo_biUnion_join Finset.univ _ fs (fun _ => Classical.arbitrary _) (family_disj M r of hr)).trans (exists_elim fun g => ?_)
  rw [family_cover M hM r of hr]
  iintro ⟨-, H⟩
  iexists g
  iexact H

end Family

theorem bigSep_fin10 {M : Type _} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} by decide]
  repeat rw [bigSep_insert (by decide)]
  rw [bigSep_singleton]
  rfl

theorem bigSep_fin4 {M : Type _} [URA M] (Φ : Fin 4 → sProp M) :
    bigSep Finset.univ Φ = iprop(Φ 0 ∗ Φ 1 ∗ Φ 2 ∗ Φ 3) := by
  rw [show (Finset.univ : Finset (Fin 4)) = {0, 1, 2, 3} by decide]
  repeat rw [bigSep_insert (by decide)]
  rw [bigSep_singleton]
  rfl

theorem bigSep_fin16 {M : Type _} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [show (Finset.univ : Finset (Fin 16)) = {0, 1, 2, 3, 4, 5, 6, 7, 8, 9, 10, 11, 12, 13, 14, 15} by decide]
  repeat rw [bigSep_insert (by decide)]
  rw [bigSep_singleton]
  rfl

end Split

end Cert.KernelIdeal.Hand

end
-- ==== Proof.Steps.lean ====
module

public import proofs.«01_k».proof.Proof.Contents
public import Idealize.ShloMosaic.Lib.Pipeline.Value

@[expose] public section

set_option maxRecDepth 16384

noncomputable section

/-!
# The steps of the exchange

Sending a block, waiting for a received block, waiting for a sent block, and the barrier's two sides, each stated
once for any block; and what a block of a staged operand reads.
-/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

variable (sd : Dev nD → Fin 10 → Blk F) (K : GSem nD τ sig → ℕ) (c : Dev nD)

/-- A block of the send buffer, and of the receive buffer, as the copies name them. -/
abbrev sB (r : Rect S2x512x2048) (hr : ∀ a, r.stride a = 1) (s' : Shape) (h : r.shape.Squeezes s') : Memref sig .tc .vmem s' .bf16 := (sM.slice r hr).squeeze s' h
abbrev rB (r : Rect S2x512x2048) (hr : ∀ a, r.stride a = 1) (s' : Shape) (h : r.shape.Squeezes s') : Memref sig .tc .vmem s' .bf16 := (rM.slice r hr).squeeze s' h

/-- A block goes to the peer: its receive credit is paid, and the wait for its own send semaphore is bought. -/
theorem wp_send_blk (i : Fin 10) (r : Rect S2x512x2048) (hr) (s' : Shape) (h) (hR : R i = r) (hN : (rB r hr s' h).view.dmaCredit = N i)
    (fs fd : Blk F) (hfs : ∀ j ∈ sM.view.setOn r.set, fs j = sd c i j) (O : CellTallies nD τ sig Unit)
    {d : Dev nD} (hd : d = peer c) {W : Waits sig Unit} {α : Type}
    {hsc : (rB r hr s' h).view.ref.isScScratch = false} {hsrc : (sB r hr s' h).view.WordExact} {hdst : (rB r hr s' h).view.WordExact}
    {hsem : DmaTarget.Typed .vmem (.dma (recvS i)) (.remote (d : Thread nD τ) (rB r hr s' h) (.dma (sendS i)) hsc)}
    {k : PUnit → Prog (TpuEff nD τ sig (Elt F) Λ₀ .tc) α} {Kt : α → sProp 𝕄} :
    iprop(cellInv ER (sched sd) (K (sendCell c i)) (sendCell c i) ∗ cellInv ER (sched sd) (K (recvCell (peer c) i)) (recvCell (peer c) i)
      ∗ hpt c sM r fs ∗ hpt (peer c) rM r fd ∗ owes (c : Thread nD τ) (O + owe c i) W
      ∗ dutyTok ER (sendCell c i) 0 () ∗ reached ER (sendCell c i) 0 ∗ dutyTok ER (recvCell (peer c) i) 0 () ∗ reached ER (recvCell (peer c) i) 0)
      ⊢ iprop(((cred (tallyAt (sendCell c i) () (N i)) ∗ owes (c : Thread nD τ) O W) -∗ wp frame (wpE (defs₀ (F := F)) 𝒱₀ c none) Set.univ (k ⟨⟩) Kt)
        -∗ wp frame (wpE (defs₀ (F := F)) 𝒱₀ c none) Set.univ
          (.op (.enqueueDma (sB r hr s' h) (.remote (d : Thread nD τ) (rB r hr s' h) (.dma (sendS i)) hsc) (.dma (recvS i)) hsrc hdst hsem) k) Kt) := by
  subst hR hd
  have hs : (sB (R i) hr s' h).view.set = sM.view.setOn (R i).set := set_sq _ _ _ _
  have hv : (rB (R i) hr s' h).view.set = rM.view.setOn (R i).set := set_sq _ _ _ _
  have key := Rounds.wp_send_pointsTo 𝒱₀ ER (sched sd) (c : Thread nD τ) none (c' := (peer c : Thread nD τ)) (src := sB (R i) hr s' h) (dst := rB (R i) hr s' h)
      (sS := .dma (sendS i)) (sem := .dma (recvS i)) (hsc := hsc) (hsrc := hsrc) (hdst := hdst) (hsem := hsem) (k := k) (Q := Kt) (Γ := .empty)
      (q := fullShare) (fs := fs) (κ₁ := K (sendCell c i)) (κ₂ := K (recvCell (peer c) i))
      (r₁ := 0) (r₂ := 0) (d₁ := ()) (d₂ := ()) (fd := fd) (defs := defs₀ (F := F)) (Es := Set.univ)
      (by rw [duties_send]; exact Finset.mem_singleton_self _) (by rw [duties_recv]; exact Finset.mem_singleton_self _)
      () () (N i) hN (amount_send sd c i ()) (amount_recv sd (peer c) i ()) (O₀ := O + owe c i) O rfl (W := W)
      (by rw [payload_send]; unfold sendPay; rw [hs]; exact Entails.of_eq (pointsTo_congr hfs))
      (by
        rw [payload_recv]; unfold recvPay; rw [hv, peer_peer]
        refine Entails.of_eq (pointsTo_congr fun j hj => ?_)
        refine (landed (b := cc0_scratch6) (R i) hr s' h fd fs _ rfl j hj).trans (hfs j ?_)
        exact (setOn_whole cc0_scratch5 (R i).set).symm ▸ ((setOn_whole cc0_scratch6 (R i).set) ▸ hj))
  rw [hs, hv] at key
  exact key

/-! What a wait hands over, as `sched` spells it. -/
theorem pay_bar : bigSep ((sched sd).duties (barCell c) 0) (fun u => (sched sd).payload (barCell c) 0 u)
    = iprop(((∃ f, hpt (peer c) rM R0 f) ∗ reached ER (recvCell (peer c) 0) 0) ∗ ((∃ f, hpt (peer c) rM R1 f) ∗ reached ER (recvCell (peer c) 1) 0) ∗ ((∃ f, hpt (peer c) rM R2 f) ∗ reached ER (recvCell (peer c) 2) 0) ∗ ((∃ f, hpt (peer c) rM R3 f) ∗ reached ER (recvCell (peer c) 3) 0) ∗ ((∃ f, hpt (peer c) rM R4 f) ∗ reached ER (recvCell (peer c) 4) 0) ∗ ((∃ f, hpt (peer c) rM R5 f) ∗ reached ER (recvCell (peer c) 5) 0) ∗ ((∃ f, hpt (peer c) rM R6 f) ∗ reached ER (recvCell (peer c) 6) 0) ∗ ((∃ f, hpt (peer c) rM R7 f) ∗ reached ER (recvCell (peer c) 7) 0) ∗ ((∃ f, hpt (peer c) rM R8 f) ∗ reached ER (recvCell (peer c) 8) 0) ∗ ((∃ f, hpt (peer c) rM R9 f) ∗ reached ER (recvCell (peer c) 9) 0)) := by
  rw [duties_bar, bigSep_singleton, payload_bar]; unfold barPay; rw [bigSep_fin10]; rfl
theorem pay_recv (i : Fin 10) : bigSep ((sched sd).duties (recvCell c i) 0) (fun u => (sched sd).payload (recvCell c i) 0 u) = hpt c rM (R i) (sd (peer c) i) := by
  rw [duties_recv, bigSep_singleton, payload_recv]; rfl
theorem pay_send (i : Fin 10) : bigSep ((sched sd).duties (sendCell c i) 0) (fun u => (sched sd).payload (sendCell c i) 0 u) = hpt c sM (R i) (sd c i) := by
  rw [duties_send, bigSep_singleton, payload_send]; rfl

theorem R_0 : R 0 = R0 := rfl
theorem R_1 : R 1 = R1 := rfl
theorem R_2 : R 2 = R2 := rfl
theorem R_3 : R 3 = R3 := rfl
theorem R_4 : R 4 = R4 := rfl
theorem R_5 : R 5 = R5 := rfl
theorem R_6 : R 6 = R6 := rfl
theorem R_7 : R 7 = R7 := rfl
theorem R_8 : R 8 = R8 := rfl
theorem R_9 : R 9 = R9 := rfl
theorem Q_0 : Q 0 = Q0 := rfl
theorem Q_1 : Q 1 = Q1 := rfl
theorem Q_2 : Q 2 = Q2 := rfl
theorem Q_3 : Q 3 = Q3 := rfl

/-! ## What the staged operands read -/

theorem T0_sub (r : Fin 4) (j) : (T0 c r).toLoadRect.idx j ∈ B0.set := by
  refine (mem_Bt 0 _).mpr (Fin.ext ?_)
  show k0_off1 c (BitVec.ofNat 32 (128 * r.val)) 0 + 1 * (j 0).val = 0
  have h : (j 0).val < 1 := (j 0).isLt
  rw [k0_off1_eq]; show 0 + 1 * (j 0).val = 0; omega
theorem T1_sub (r : Fin 4) (j) : (T1 c r).toLoadRect.idx j ∈ B1.set := by
  refine (mem_Bt 1 _).mpr (Fin.ext ?_)
  show k0_off2 c (BitVec.ofNat 32 (128 * r.val)) 0 + 1 * (j 0).val = 1
  have h : (j 0).val < 1 := (j 0).isLt
  rw [k0_off2_eq]; show 1 + 1 * (j 0).val = 1; omega

section Weight

variable (w : Ws F)

/-- Writes that cover an index leave there what the last of them stores. -/
theorem writes_all {Val : EltTy → Type} [∀ e, Nonempty (Val e)] {b : Ref sig .tc} (f : b.ty.Contents Val) (L : List (View.Piece Val b.ty.shape b.ty.elt)) (j : b.ty.shape.Idx)
    (h : ∃ p ∈ L, j ∈ p.1.set) : (Memref.whole b).view.writes Val f L j = View.canon L j :=
  View.read_writes_apply_eq_canon (Memref.whole b).view f j L h

theorem readCov_canon {Val : EltTy → Type} [∀ e, Nonempty (Val e)] {b : Ref sig .tc} (L : List (View.Piece Val b.ty.shape b.ty.elt)) (B : LoadRect b.ty.shape) :
    (Memref.whole b).view.readCov L B = (Memref.whole b).view.readAt Val B (View.canon L) := by
  rw [View.readCov_eq_canon']; rfl

theorem idx_mem (r : Rect S1024x2048) (j : r.shape.Idx) : r.idx j ∈ r.set := by
  rw [← Rect.map_emb_univ]; exact Finset.mem_map_of_mem r.emb (Finset.mem_univ j)

/-- The staged quarter of the weight reads as the weight there. -/
theorem covf (r : Rect S1024x2048) (hr) :
    fM.view.readCov [⟨r, ReadAs.same.apply ((wM.slice r hr).view.read (Elt F) w)⟩] r.toLoadRect = fM.view.readAt (Elt F) r.toLoadRect w :=
  readCov_of_all (Val := Elt F) fM.view w _ _ (fun j => ⟨_, List.mem_singleton_self _, idx_mem r j⟩)
    (fun p hp j => by rw [List.mem_singleton] at hp; subst hp; rfl)

/-- The short form of one quarter, made from what its staged copy reads. -/
abbrev P0 : View.Piece (Elt F) S1024x2048 .bf16 := ⟨Q0, k0_pay1 (fM.view.readCov (Val := Elt F) [⟨Q0, ReadAs.same.apply ((wM.slice Q0 (fun _ => rfl)).view.read (Elt F) w)⟩] Q0.toLoadRect)⟩
abbrev P1 : View.Piece (Elt F) S1024x2048 .bf16 := ⟨Q1, k0_pay1 (fM.view.readCov (Val := Elt F) [⟨Q1, ReadAs.same.apply ((wM.slice Q1 (fun _ => rfl)).view.read (Elt F) w)⟩] Q1.toLoadRect)⟩
abbrev P2 : View.Piece (Elt F) S1024x2048 .bf16 := ⟨Q2, k0_pay1 (fM.view.readCov (Val := Elt F) [⟨Q2, ReadAs.same.apply ((wM.slice Q2 (fun _ => rfl)).view.read (Elt F) w)⟩] Q2.toLoadRect)⟩
abbrev P3 : View.Piece (Elt F) S1024x2048 .bf16 := ⟨Q3, k0_pay1 (fM.view.readCov (Val := Elt F) [⟨Q3, ReadAs.same.apply ((wM.slice Q3 (fun _ => rfl)).view.read (Elt F) w)⟩] Q3.toLoadRect)⟩

theorem pay1_eq (v : Vec F S1024x512 .f32) : k0_pay1 v = truncf .bf16 v bitsLt_bf16_f32 := by
  unfold k0_pay1; exact shapeCast_self _ _

theorem pieces_eq (p) (hp : p ∈ [P3 w, P2 w, P1 w, P0 w]) (j) : p.2 j = W16 w (p.1.idx j) := by
  simp only [List.mem_cons, List.not_mem_nil, or_false] at hp
  rcases hp with rfl | rfl | rfl | rfl
  · show k0_pay1 _ j = _; rw [pay1_eq, covf]; rfl
  · show k0_pay1 _ j = _; rw [pay1_eq, covf]; rfl
  · show k0_pay1 _ j = _; rw [pay1_eq, covf]; rfl
  · show k0_pay1 _ j = _; rw [pay1_eq, covf]; rfl

theorem pieces_cover (y : S1024x2048.Idx) : ∃ p ∈ [P3 w, P2 w, P1 w, P0 w], y ∈ p.1.set := by
  have h := (mem_Q (qOf y) y).mpr rfl
  generalize qOf y = q at h
  fin_cases q
  · exact ⟨P0 w, by simp, h⟩
  · exact ⟨P1 w, by simp, h⟩
  · exact ⟨P2 w, by simp, h⟩
  · exact ⟨P3 w, by simp, h⟩

/-- What the loads of the short weight read while its quarters are being made, and what it holds when all are. -/
theorem cov0 : hM.view.readCov [P0 w] Q0.toLoadRect = hM.view.readAt (Elt F) Q0.toLoadRect (W16 w) :=
  readCov_of_all (Val := Elt F) hM.view (W16 w) _ _ (fun j => ⟨P0 w, by simp, idx_mem Q0 j⟩)
    (fun p hp j => pieces_eq w p (by simp only [List.mem_cons, List.not_mem_nil, or_false] at hp ⊢; tauto) j)
theorem cov1 : hM.view.readCov [P1 w, P0 w] Q1.toLoadRect = hM.view.readAt (Elt F) Q1.toLoadRect (W16 w) :=
  readCov_of_all (Val := Elt F) hM.view (W16 w) _ _ (fun j => ⟨P1 w, by simp, idx_mem Q1 j⟩)
    (fun p hp j => pieces_eq w p (by simp only [List.mem_cons, List.not_mem_nil, or_false] at hp ⊢; tauto) j)
theorem cov23 : hM.view.readCov [P3 w, P2 w, P1 w, P0 w] Q23.toLoadRect = hM.view.readAt (Elt F) Q23.toLoadRect (W16 w) :=
  readCov_of_all (Val := Elt F) hM.view (W16 w) _ _ (fun _ => pieces_cover w _) (fun p hp j => pieces_eq w p hp j)
theorem covw (f : S1024x2048.Idx → Elt F .bf16) (j : S1024x2048.Idx) : hM.view.writes (Elt F) f [P3 w, P2 w, P1 w, P0 w] j = W16 w j :=
  (writes_all (Val := Elt F) (b := cc0_scratch2) f [P3 w, P2 w, P1 w, P0 w] j (pieces_cover w j)).trans
    (canon_of_all (W16 w) _ j (pieces_cover w j) (fun p hp j => pieces_eq w p hp j))

end Weight

/-- Batch `r` of the staged activation, once copied, holds what the activation holds there. -/
theorem staged (r : Rect S2x1024x1024) (hr) (s' : Shape) (h) (f x : Xs F) (j : S2x1024x1024.Idx) (hj : j ∈ tM.view.setOn r.set) :
    ((tM.slice r hr).squeeze s' h).view.write (Elt F) f (ReadAs.same.apply (((xM.slice r hr).squeeze s' h).view.read (Elt F) x)) Finset.univ j = x j :=
  landed (Val := Elt F) (b := cc0_scratch0) r hr s' h f x _ rfl j hj

theorem readAt_staged (r : Rect S2x1024x1024) (t : Rect S2x1024x1024) (ht : ∀ j, t.toLoadRect.idx j ∈ r.set) (hr) (s' : Shape) (h) (f x : Xs F) :
    tM.view.readAt (Elt F) t.toLoadRect (((tM.slice r hr).squeeze s' h).view.write (Elt F) f (ReadAs.same.apply (((xM.slice r hr).squeeze s' h).view.read (Elt F) x)) Finset.univ)
      = tM.view.readAt (Elt F) t.toLoadRect x :=
  funext fun j => staged r hr s' h f x (t.toLoadRect.idx j) ((setOn_whole cc0_scratch0 r.set).symm ▸ ht j)

/-- The two batches' halves cover the accumulator. -/
theorem acc_cover (v1 : A1.shape.Idx → Elt F .f32) (v0 : A0.shape.Idx → Elt F .f32) (j : S2x512x2048.Idx) :
    ∃ p ∈ ([⟨A1, v1⟩, ⟨A0, v0⟩] : List (View.Piece (Elt F) S2x512x2048 .f32)), j ∈ p.1.set := by
  have h0 : (j 0).val < 2 := (j 0).isLt
  have h1 : (j 1).val < 512 := (j 1).isLt
  have h2 : (j 2).val < 2048 := (j 2).isLt
  by_cases h : (j 0).val = 0
  · refine ⟨_, List.mem_cons_of_mem _ (List.mem_singleton_self _), ?_⟩
    show j ∈ A0.set
    refine mem_unit.mpr fun a => ?_
    fin_cases a
    · exact ⟨Nat.zero_le _, by show (j 0).val < 0 + 1; omega⟩
    · exact ⟨Nat.zero_le _, by show (j 1).val < 0 + 512; omega⟩
    · exact ⟨Nat.zero_le _, by show (j 2).val < 0 + 2048; omega⟩
  · refine ⟨_, List.mem_cons_self, ?_⟩
    show j ∈ A1.set
    refine mem_unit.mpr fun a => ?_
    fin_cases a
    · exact ⟨by show 1 ≤ (j 0).val; omega, by show (j 0).val < 1 + 1; omega⟩
    · exact ⟨Nat.zero_le _, by show (j 1).val < 0 + 512; omega⟩
    · exact ⟨Nat.zero_le _, by show (j 2).val < 0 + 2048; omega⟩

/-- The two halves of the device's own product, stored one after the other. -/
theorem acc_writes (f : S2x512x2048.Idx → Elt F .f32) (v1 : A1.shape.Idx → Elt F .f32) (v0 : A0.shape.Idx → Elt F .f32) (j : S2x512x2048.Idx) :
    aM.view.writes (Elt F) f [⟨A1, v1⟩, ⟨A0, v0⟩] j = View.canon (Val := Elt F) [⟨A1, v1⟩, ⟨A0, v0⟩] j :=
  writes_all (Val := Elt F) (b := cc0_scratch3) f [⟨A1, v1⟩, ⟨A0, v0⟩] j (acc_cover v1 v0 j)
theorem acc_cov (x : Dev nD → Xs F) (w : Dev nD → Ws F) (f : S2x512x2048.Idx → Elt F .f32) (j : S2x512x2048.Idx) :
    aM.view.writes (Elt F) f [⟨A1, k0_pay18 (tM.view.readAt (Elt F) (T3 c).toLoadRect (x c)) (hM.view.readAt (Elt F) Qall.toLoadRect (W16 (w c)))⟩,
      ⟨A0, k0_pay17 (k0_pay16 (tM.view.readAt (Elt F) (T2 c).toLoadRect (x c))) (hM.view.readAt (Elt F) Qall.toLoadRect (W16 (w c)))⟩] j = acc x w c j :=
  acc_writes f _ _ j

/-- A result block, once copied out, holds what the staging buffer holds there. -/
theorem stored (r : Rect S2x512x2048) (hr) (s' : Shape) (h) (f o : Blk F) (j : S2x512x2048.Idx) (hj : j ∈ zM.view.setOn r.set) :
    ((zM.slice r hr).squeeze s' h).view.write (Elt F) f (ReadAs.same.apply (((oM.slice r hr).squeeze s' h).view.read (Elt F) o)) Finset.univ j = o j :=
  landed (Val := Elt F) (b := main_v3) r hr s' h f o _ rfl j hj

theorem acc_readCov (v1 : A1.shape.Idx → Elt F .f32) (v0 : A0.shape.Idx → Elt F .f32) (B : LoadRect S2x512x2048) :
    aM.view.readCov [⟨A1, v1⟩, ⟨A0, v0⟩] B = aM.view.readAt (Elt F) B (View.canon (Val := Elt F) [⟨A1, v1⟩, ⟨A0, v0⟩]) :=
  readCov_canon (Val := Elt F) (b := cc0_scratch3) [⟨A1, v1⟩, ⟨A0, v0⟩] B
theorem acc_read (x : Dev nD → Xs F) (w : Dev nD → Ws F) (B : LoadRect S2x512x2048) :
    aM.view.readCov [⟨A1, k0_pay18 (tM.view.readAt (Elt F) (T3 c).toLoadRect (x c)) (hM.view.readAt (Elt F) Qall.toLoadRect (W16 (w c)))⟩,
      ⟨A0, k0_pay17 (k0_pay16 (tM.view.readAt (Elt F) (T2 c).toLoadRect (x c))) (hM.view.readAt (Elt F) Qall.toLoadRect (W16 (w c)))⟩] B
      = aM.view.readAt (Elt F) B (acc x w c) :=
  acc_readCov _ _ B

/-- The copy of a staging block just stored leaves its payload in the result. -/
theorem stored_one (r : Rect S2x512x2048) (hr) (s' : Shape) (h) (fz fo : Blk F) (v v' : r.shape.Idx → Elt F .bf16) (hv : v = v') (j : S2x512x2048.Idx)
    (hj : j ∈ zM.view.setOn r.set) :
    ((zM.slice r hr).squeeze s' h).view.write (Elt F) fz (ReadAs.same.apply (((oM.slice r hr).squeeze s' h).view.read (Elt F) (oM.view.writes (Elt F) fo [⟨r, v⟩]))) Finset.univ j
      = View.canon (Val := Elt F) [⟨r, v'⟩] j :=
  (stored r hr s' h fz _ j hj).trans (writes_one (Val := Elt F) (b := cc0_scratch4) fo r v v' hv j ((setOn_whole cc0_scratch4 r.set).symm ▸ ((setOn_whole main_v3 r.set) ▸ hj)))

/-- The two staged batches are the staged activation. -/
theorem both_t (f : Xs F) : iprop(hpt c tM B0 f ∗ hpt c tM B1 f : sProp 𝕄) ⊢ wpt c tM f := by
  rw [wpt_blocks c tM (View.set_whole _) Bt (fun j => j 0) mem_Bt f, bigSep_fin_two]
  exact Entails.refl _

/-- Held contents may be named otherwise where they agree. -/
theorem restate {ℓ : Loc nD τ sig} {I : Finset (Idx ℓ)} {f : Buf (Elt F) ℓ} :
    (ℓ ↦[I]{fullShare} f : sProp 𝕄) ⊢ iprop(∀ g : Buf (Elt F) ℓ, ∀ _ : (∀ i ∈ I, f i = g i), ℓ ↦[I]{fullShare} g) := by
  iintro H %g %h
  ihave H' := (Entails.of_eq (pointsTo_congr h)) $$ H
  iexact H'

/-- A block just stored holds its payload. -/
theorem restore {b : Ref sig .tc} {r : Rect b.ty.shape} {f : b.ty.Contents (Elt F)} {v : r.shape.Idx → Elt F b.ty.elt} :
    (hpt c (Memref.whole b) r ((Memref.whole b).view.writes (Elt F) f [⟨r, v⟩]) : sProp 𝕄)
      ⊢ iprop(∀ v' : r.shape.Idx → Elt F b.ty.elt, ∀ _ : v = v', hpt c (Memref.whole b) r (View.canon (Val := Elt F) [⟨r, v'⟩])) := by
  iintro H %v' %h
  ihave H' := (Entails.of_eq (pointsTo_congr (fun j hj => writes_one (Val := Elt F) f r v v' h j hj))) $$ H
  iexact H'

end Cert.KernelIdeal.Hand

end
-- ==== Proof.Body.lean ====
module

public import proofs.«01_k».proof.Proof.Steps

@[expose] public section

set_option maxRecDepth 16384

noncomputable section

/-!
# One device's run

The body at one device, from what the launch hands it to the result: the ten blocks of its own product the peer
wants are sent as they are made, the ten blocks it is sent are added to its own half, and each sum is copied out.
-/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ UU ℕ

variable (x : Dev nD → Xs F) (w : Dev nD → Ws F) (K : GSem nD τ sig → ℕ) (c : Dev nD)

/-- What a device's run starts from. -/
def bodyPre (W : Waits sig Unit) : sProp 𝕄 :=
  iprop(levAts L lv ∗ cellInv ER (sched (snd x w)) (K (barCell (peer c))) (barCell (peer c)) ∗ cellInv ER (sched (snd x w)) (K (barCell c)) (barCell c)
      ∗ dutyTok ER (barCell (peer c)) 0 () ∗ reached ER (barCell (peer c)) 0 ∗ atPos ER (barCell c) 0 ∅ 0 ∗ cred (tallyAt (barCell c) () 1)
      ∗ barPay (peer c)
      ∗ hpt c xM B0 (x c) ∗ hpt c xM B1 (x c) ∗ (bigSep Finset.univ fun i => hpt c wM (Q i) (w c))
      ∗ (∃ f, hpt c tM B0 f) ∗ (∃ f, hpt c tM B1 f) ∗ (bigSep Finset.univ fun i => iprop(∃ f, hpt c fM (Q i) f))
      ∗ (∃ f, wpt c hM f) ∗ (∃ f, wpt c aM f) ∗ (bigSep Finset.univ fun i => iprop(∃ f, hpt c sM (R i) f))
      ∗ (bigSep Finset.univ fun i => iprop(∃ f, hpt c oM (R i) f)) ∗ (bigSep Finset.univ fun i => iprop(∃ f, hpt c zM (R i) f))
      ∗ (bigSep Finset.univ fun i : Fin 10 => cellInv ER (sched (snd x w)) (K (sendCell c i)) (sendCell c i))
      ∗ (bigSep Finset.univ fun i : Fin 10 => cellInv ER (sched (snd x w)) (K (recvCell c i)) (recvCell c i))
      ∗ (bigSep Finset.univ fun i : Fin 10 => cellInv ER (sched (snd x w)) (K (recvCell (peer c) i)) (recvCell (peer c) i))
      ∗ (bigSep Finset.univ fun i : Fin 10 => dutyTok ER (sendCell c i) 0 ())
      ∗ (bigSep Finset.univ fun i : Fin 10 => reached ER (sendCell c i) 0)
      ∗ (bigSep Finset.univ fun i : Fin 10 => dutyTok ER (recvCell (peer c) i) 0 ())
      ∗ (bigSep Finset.univ fun i : Fin 10 => atPos ER (sendCell c i) 0 ∅ 0)
      ∗ (bigSep Finset.univ fun i : Fin 10 => atPos ER (recvCell c i) 0 ∅ 0)
      ∗ (bigSep Finset.univ fun i : Fin 10 => cred (tallyAt (recvCell c i) () (N i)))
      ∗ (bigSep Finset.univ fun i : Fin 16 => semVal ((c : Thread nD τ), .dma (dsem ⟨20 + i.val, by omega⟩)) 0)
      ∗ owes (c : Thread nD τ) (O₀ c) W)

/-- What it ends with: the result, and everything it was lent. -/
def bodyPost (W : Waits sig Unit) : sProp 𝕄 :=
  iprop(hpt c xM B0 (x c) ∗ hpt c xM B1 (x c) ∗ (bigSep Finset.univ fun i => hpt c wM (Q i) (w c))
      ∗ (∃ f, wpt c tM f) ∗ (bigSep Finset.univ fun i => iprop(∃ f, hpt c fM (Q i) f))
      ∗ (∃ f, wpt c hM f) ∗ (∃ f, wpt c aM f) ∗ (bigSep Finset.univ fun i => iprop(∃ f, hpt c sM (R i) f)) ∗ (bigSep Finset.univ fun i => iprop(∃ f, hpt c rM (R i) f))
      ∗ (bigSep Finset.univ fun i => iprop(∃ f, hpt c oM (R i) f)) ∗ (bigSep Finset.univ fun i => hpt c zM (R i) (out x w c i))
      ∗ atPos ER (barCell c) 1 ∅ 0
      ∗ (bigSep Finset.univ fun i : Fin 10 => atPos ER (sendCell c i) 1 ∅ 0)
      ∗ (bigSep Finset.univ fun i : Fin 10 => atPos ER (recvCell c i) 1 ∅ 0)
      ∗ (bigSep Finset.univ fun i : Fin 16 => semVal ((c : Thread nD τ), .dma (dsem ⟨20 + i.val, by omega⟩)) 0)
      ∗ owes (c : Thread nD τ) 0 W)

set_option maxHeartbeats 40000000 in
/-- The run of the body at one device. -/
theorem run_body (W : Waits sig Unit) (Kt : PUnit → sProp 𝕄) :
    iprop(bodyPre x w K c W ∗ (∀ W', bodyPost x w c W' -∗ |={Set.univ}=> Kt ⟨⟩))
      ⊢ wp frame (wpE (defs₀ (F := F)) 𝒱₀ c none) Set.univ (bodyAt0 (F := F) t0_0) Kt := by
  unfold bodyPre bodyPost
  simp only [bigSep_fin10, bigSep_fin4, bigSep_fin16, R_0, R_1, R_2, R_3, R_4, R_5, R_6, R_7, R_8, R_9, Q_0, Q_1, Q_2, Q_3]
  iintro ⟨⟨#Hlev, #HIp, #HIb, HtP, #HrP, HatB, HcB, Hbp, Hx0, Hx1, ⟨Hw0, Hw1, Hw2, Hw3⟩, ⟨%ft0, Ht0⟩, ⟨%ft1, Ht1⟩, ⟨⟨%ff0, Hf0⟩, ⟨%ff1, Hf1⟩, ⟨%ff2, Hf2⟩, ⟨%ff3, Hf3⟩⟩, ⟨%fh, Hh⟩, ⟨%fa, Ha⟩, ⟨⟨%fs0, Hs0⟩, ⟨%fs1, Hs1⟩, ⟨%fs2, Hs2⟩, ⟨%fs3, Hs3⟩, ⟨%fs4, Hs4⟩, ⟨%fs5, Hs5⟩, ⟨%fs6, Hs6⟩, ⟨%fs7, Hs7⟩, ⟨%fs8, Hs8⟩, ⟨%fs9, Hs9⟩⟩, ⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩, ⟨%fo8, Ho8⟩, ⟨%fo9, Ho9⟩⟩, ⟨⟨%fz0, Hz0⟩, ⟨%fz1, Hz1⟩, ⟨%fz2, Hz2⟩, ⟨%fz3, Hz3⟩, ⟨%fz4, Hz4⟩, ⟨%fz5, Hz5⟩, ⟨%fz6, Hz6⟩, ⟨%fz7, Hz7⟩, ⟨%fz8, Hz8⟩, ⟨%fz9, Hz9⟩⟩, ⟨#HIs0, #HIs1, #HIs2, #HIs3, #HIs4, #HIs5, #HIs6, #HIs7, #HIs8, #HIs9⟩, ⟨#HIr0, #HIr1, #HIr2, #HIr3, #HIr4, #HIr5, #HIr6, #HIr7, #HIr8, #HIr9⟩, ⟨#HIq0, #HIq1, #HIq2, #HIq3, #HIq4, #HIq5, #HIq6, #HIq7, #HIq8, #HIq9⟩, ⟨HtS0, HtS1, HtS2, HtS3, HtS4, HtS5, HtS6, HtS7, HtS8, HtS9⟩, ⟨#HrS0, #HrS1, #HrS2, #HrS3, #HrS4, #HrS5, #HrS6, #HrS7, #HrS8, #HrS9⟩, ⟨HtQ0, HtQ1, HtQ2, HtQ3, HtQ4, HtQ5, HtQ6, HtQ7, HtQ8, HtQ9⟩, ⟨HatS0, HatS1, HatS2, HatS3, HatS4, HatS5, HatS6, HatS7, HatS8, HatS9⟩, ⟨HatR0, HatR1, HatR2, HatR3, HatR4, HatR5, HatR6, HatR7, HatR8, HatR9⟩, ⟨HcR0, HcR1, HcR2, HcR3, HcR4, HcR5, HcR6, HcR7, HcR8, HcR9⟩, ⟨Hm20, Hm21, Hm22, Hm23, Hm24, Hm25, Hm26, Hm27, Hm28, Hm29, Hm30, Hm31, Hm32, Hm33, Hm34, Hm35⟩, HO⟩, Hk⟩
  sl_exec
  rw [dev1_eq c]
  iapply (Rounds.wp_signal 𝒱₀ ER (sched (snd x w)) (c : Thread nD τ) none (dst := (peer c : Thread nD τ)) (sem := barrier0) (r := 0) (d := ()) (κ := K (barCell (peer c)))
     (by rw [duties_bar]; exact Finset.mem_singleton_self _) (amount_bar (snd x w) (peer c) ()) () (oweFrom c 0) rfl) $$ [HO HtP Hbp]
  · isplitr; · iexact HIp
    isplitl [HO]; · iexact HO
    isplitl [HtP]; · iexact HtP
    isplitl [Hbp]
    · rw [payload_bar]; iexact Hbp
    · iexact HrP
  iintro HO
  have hmw22 := mayWait_of (F := F) (O := oweFrom c 0) (onlyRecv_from c 0) (.dma (dsem 22)) (by show (0 : ℕ) ≤ 1; decide)
  have hmw20 := mayWait_of (F := F) (O := oweFrom c 0) (onlyRecv_from c 0) (.dma (dsem 20)) (by show (0 : ℕ) ≤ 1; decide)
  have hmw23 := mayWait_of (F := F) (O := oweFrom c 1) (onlyRecv_from c 1) (.dma (dsem 23)) (by show (0 : ℕ) ≤ 1; decide)
  have hmw24 := mayWait_of (F := F) (O := oweFrom c 2) (onlyRecv_from c 2) (.dma (dsem 24)) (by show (0 : ℕ) ≤ 1; decide)
  have hmw25 := mayWait_of (F := F) (O := oweFrom c 2) (onlyRecv_from c 2) (.dma (dsem 25)) (by show (0 : ℕ) ≤ 1; decide)
  have hmw21 := mayWait_of (F := F) (O := oweFrom c 6) (onlyRecv_from c 6) (.dma (dsem 21)) (by show (0 : ℕ) ≤ 1; decide)
  have hmwB := mayWait_of (F := F) (O := oweFrom c 0) (onlyRecv_from c 0) (.reg barrier0) (by show (1 : ℕ) ≤ 1; decide)
  sl_exec
  ihave Hp := (Entails.of_eq (pay_bar (snd x w) c)) $$ HatB_pay1
  icases Hp with ⟨⟨⟨%fq0, Hq0⟩, #HrQ0⟩, ⟨⟨%fq1, Hq1⟩, #HrQ1⟩, ⟨⟨%fq2, Hq2⟩, #HrQ2⟩, ⟨⟨%fq3, Hq3⟩, #HrQ3⟩, ⟨⟨%fq4, Hq4⟩, #HrQ4⟩, ⟨⟨%fq5, Hq5⟩, #HrQ5⟩, ⟨⟨%fq6, Hq6⟩, #HrQ6⟩, ⟨⟨%fq7, Hq7⟩, #HrQ7⟩, ⟨⟨%fq8, Hq8⟩, #HrQ8⟩, ⟨⟨%fq9, Hq9⟩, #HrQ9⟩⟩
  ihave Ht0w := (restate (F := F)) $$ Ht0
  ihave Ht0 := Ht0w $$ %(x c) %(fun j hj => staged B0 _ _ _ ft0 (x c) j hj)
  ihave Hsw := (restore (F := F) c) $$ Hs0
  ihave Hs0 := Hsw $$ %(k0_pay2 (tM.view.readAt (Elt F) (T0 c 0).toLoadRect (x c)) (hM.view.readAt (Elt F) Q0.toLoadRect (W16 (w c)))) %(congrArg₂ k0_pay2 (readAt_staged B0 (T0 c 0) (T0_sub c 0) _ _ _ ft0 (x c)) (cov0 (w c)))
  iapply (wp_send_blk (snd x w) K c 0 R0 (fun _ => rfl) S128x512 squeezes_S1x128x512_S128x512 rfl rfl (snd x w c 0) fq0 (fun _ _ => rfl) (oweFrom c 1) (dev2_eq c)) $$ [Hs0 Hq0 HO HtS0 HtQ0]
  · isplitr; · iexact HIs0
    isplitr; · iexact HIq0
    isplitl [Hs0]; · iexact Hs0
    isplitl [Hq0]; · iexact Hq0
    isplitl [HO]; · iexact HO
    isplitl [HtS0]; · iexact HtS0
    isplitr; · iexact HrS0
    isplitl [HtQ0]; · iexact HtQ0
    iexact HrQ0
  iintro ⟨HcS0, HO⟩
  sl_exec
  ihave Hsw := (restore (F := F) c) $$ Hs1
  ihave Hs1 := Hsw $$ %(k0_pay4 (tM.view.readAt (Elt F) (T0 c 0).toLoadRect (x c)) (hM.view.readAt (Elt F) Q1.toLoadRect (W16 (w c)))) %(congrArg (k0_pay4 _) (cov1 (w c)))
  iapply (wp_send_blk (snd x w) K c 1 R1 (fun _ => rfl) S128x512 squeezes_S1x128x512_S128x512 rfl rfl (snd x w c 1) fq1 (fun _ _ => rfl) (oweFrom c 2) (dev3_eq c)) $$ [Hs1 Hq1 HO HtS1 HtQ1]
  · isplitr; · iexact HIs1
    isplitr; · iexact HIq1
    isplitl [Hs1]; · iexact Hs1
    isplitl [Hq1]; · iexact Hq1
    isplitl [HO]; · iexact HO
    isplitl [HtS1]; · iexact HtS1
    isplitr; · iexact HrS1
    isplitl [HtQ1]; · iexact HtQ1
    iexact HrQ1
  iintro ⟨HcS1, HO⟩
  sl_exec
  ihave Hsw := (restore (F := F) c) $$ Hs2
  ihave Hs2 := Hsw $$ %(k0_pay7 (tM.view.readAt (Elt F) (T0 c 0).toLoadRect (x c)) (hM.view.readAt (Elt F) Q23.toLoadRect (W16 (w c)))) %(congrArg (k0_pay7 _) (cov23 (w c)))
  ihave Hhw := (restate (F := F)) $$ Hh
  ihave Hh := Hhw $$ %(W16 (w c)) %(fun j _ => covw (w c) fh j)
  iapply (wp_send_blk (snd x w) K c 2 R2 (fun _ => rfl) S128x1024 squeezes_S1x128x1024_S128x1024 rfl rfl (snd x w c 2) fq2 (fun _ _ => rfl) (oweFrom c 3) (dev4_eq c)) $$ [Hs2 Hq2 HO HtS2 HtQ2]
  · isplitr; · iexact HIs2
    isplitr; · iexact HIq2
    isplitl [Hs2]; · iexact Hs2
    isplitl [Hq2]; · iexact Hq2
    isplitl [HO]; · iexact HO
    isplitl [HtS2]; · iexact HtS2
    isplitr; · iexact HrS2
    isplitl [HtQ2]; · iexact HtQ2
    iexact HrQ2
  iintro ⟨HcS2, HO⟩
  sl_exec
  ihave Hsw := (restore (F := F) c) $$ Hs3
  ihave Hs3 := Hsw $$ %(k0_pay10 (tM.view.readAt (Elt F) (T0 c 1).toLoadRect (x c)) (hM.view.readAt (Elt F) Qall.toLoadRect (W16 (w c)))) %(rfl)
  iapply (wp_send_blk (snd x w) K c 3 R3 (fun _ => rfl) S128x2048 squeezes_S1x128x2048_S128x2048 rfl rfl (snd x w c 3) fq3 (fun _ _ => rfl) (oweFrom c 4) (dev5_eq c)) $$ [Hs3 Hq3 HO HtS3 HtQ3]
  · isplitr; · iexact HIs3
    isplitr; · iexact HIq3
    isplitl [Hs3]; · iexact Hs3
    isplitl [Hq3]; · iexact Hq3
    isplitl [HO]; · iexact HO
    isplitl [HtS3]; · iexact HtS3
    isplitr; · iexact HrS3
    isplitl [HtQ3]; · iexact HtQ3
    iexact HrQ3
  iintro ⟨HcS3, HO⟩
  sl_exec
  ihave Hsw := (restore (F := F) c) $$ Hs4
  ihave Hs4 := Hsw $$ %(k0_pay10 (tM.view.readAt (Elt F) (T0 c 2).toLoadRect (x c)) (hM.view.readAt (Elt F) Qall.toLoadRect (W16 (w c)))) %(rfl)
  iapply (wp_send_blk (snd x w) K c 4 R4 (fun _ => rfl) S128x2048 squeezes_S1x128x2048_S128x2048 rfl rfl (snd x w c 4) fq4 (fun _ _ => rfl) (oweFrom c 5) (dev6_eq c)) $$ [Hs4 Hq4 HO HtS4 HtQ4]
  · isplitr; · iexact HIs4
    isplitr; · iexact HIq4
    isplitl [Hs4]; · iexact Hs4
    isplitl [Hq4]; · iexact Hq4
    isplitl [HO]; · iexact HO
    isplitl [HtS4]; · iexact HtS4
    isplitr; · iexact HrS4
    isplitl [HtQ4]; · iexact HtQ4
    iexact HrQ4
  iintro ⟨HcS4, HO⟩
  sl_exec
  ihave Hsw := (restore (F := F) c) $$ Hs5
  ihave Hs5 := Hsw $$ %(k0_pay10 (tM.view.readAt (Elt F) (T0 c 3).toLoadRect (x c)) (hM.view.readAt (Elt F) Qall.toLoadRect (W16 (w c)))) %(rfl)
  iapply (wp_send_blk (snd x w) K c 5 R5 (fun _ => rfl) S128x2048 squeezes_S1x128x2048_S128x2048 rfl rfl (snd x w c 5) fq5 (fun _ _ => rfl) (oweFrom c 6) (dev7_eq c)) $$ [Hs5 Hq5 HO HtS5 HtQ5]
  · isplitr; · iexact HIs5
    isplitr; · iexact HIq5
    isplitl [Hs5]; · iexact Hs5
    isplitl [Hq5]; · iexact Hq5
    isplitl [HO]; · iexact HO
    isplitl [HtS5]; · iexact HtS5
    isplitr; · iexact HrS5
    isplitl [HtQ5]; · iexact HtQ5
    iexact HrQ5
  iintro ⟨HcS5, HO⟩
  sl_exec
  ihave Ht1w := (restate (F := F)) $$ Ht1
  ihave Ht1 := Ht1w $$ %(x c) %(fun j hj => staged B1 _ _ _ ft1 (x c) j hj)
  ihave Hsw := (restore (F := F) c) $$ Hs6
  ihave Hs6 := Hsw $$ %(k0_pay10 (tM.view.readAt (Elt F) (T1 c 0).toLoadRect (x c)) (hM.view.readAt (Elt F) Qall.toLoadRect (W16 (w c)))) %(congrArg (fun a => k0_pay10 a _) (readAt_staged B1 (T1 c 0) (T1_sub c 0) _ _ _ ft1 (x c)))
  iapply (wp_send_blk (snd x w) K c 6 R6 (fun _ => rfl) S128x2048 squeezes_S1x128x2048_S128x2048 rfl rfl (snd x w c 6) fq6 (fun _ _ => rfl) (oweFrom c 7) (dev8_eq c)) $$ [Hs6 Hq6 HO HtS6 HtQ6]
  · isplitr; · iexact HIs6
    isplitr; · iexact HIq6
    isplitl [Hs6]; · iexact Hs6
    isplitl [Hq6]; · iexact Hq6
    isplitl [HO]; · iexact HO
    isplitl [HtS6]; · iexact HtS6
    isplitr; · iexact HrS6
    isplitl [HtQ6]; · iexact HtQ6
    iexact HrQ6
  iintro ⟨HcS6, HO⟩
  sl_exec
  ihave Hsw := (restore (F := F) c) $$ Hs7
  ihave Hs7 := Hsw $$ %(k0_pay10 (tM.view.readAt (Elt F) (T1 c 1).toLoadRect (x c)) (hM.view.readAt (Elt F) Qall.toLoadRect (W16 (w c)))) %(rfl)
  iapply (wp_send_blk (snd x w) K c 7 R7 (fun _ => rfl) S128x2048 squeezes_S1x128x2048_S128x2048 rfl rfl (snd x w c 7) fq7 (fun _ _ => rfl) (oweFrom c 8) (dev9_eq c)) $$ [Hs7 Hq7 HO HtS7 HtQ7]
  · isplitr; · iexact HIs7
    isplitr; · iexact HIq7
    isplitl [Hs7]; · iexact Hs7
    isplitl [Hq7]; · iexact Hq7
    isplitl [HO]; · iexact HO
    isplitl [HtS7]; · iexact HtS7
    isplitr; · iexact HrS7
    isplitl [HtQ7]; · iexact HtQ7
    iexact HrQ7
  iintro ⟨HcS7, HO⟩
  sl_exec
  ihave Hsw := (restore (F := F) c) $$ Hs8
  ihave Hs8 := Hsw $$ %(k0_pay10 (tM.view.readAt (Elt F) (T1 c 2).toLoadRect (x c)) (hM.view.readAt (Elt F) Qall.toLoadRect (W16 (w c)))) %(rfl)
  iapply (wp_send_blk (snd x w) K c 8 R8 (fun _ => rfl) S128x2048 squeezes_S1x128x2048_S128x2048 rfl rfl (snd x w c 8) fq8 (fun _ _ => rfl) (oweFrom c 9) (dev10_eq c)) $$ [Hs8 Hq8 HO HtS8 HtQ8]
  · isplitr; · iexact HIs8
    isplitr; · iexact HIq8
    isplitl [Hs8]; · iexact Hs8
    isplitl [Hq8]; · iexact Hq8
    isplitl [HO]; · iexact HO
    isplitl [HtS8]; · iexact HtS8
    isplitr; · iexact HrS8
    isplitl [HtQ8]; · iexact HtQ8
    iexact HrQ8
  iintro ⟨HcS8, HO⟩
  sl_exec
  ihave Hsw := (restore (F := F) c) $$ Hs9
  ihave Hs9 := Hsw $$ %(k0_pay10 (tM.view.readAt (Elt F) (T1 c 3).toLoadRect (x c)) (hM.view.readAt (Elt F) Qall.toLoadRect (W16 (w c)))) %(rfl)
  iapply (wp_send_blk (snd x w) K c 9 R9 (fun _ => rfl) S128x2048 squeezes_S1x128x2048_S128x2048 rfl rfl (snd x w c 9) fq9 (fun _ _ => rfl) (oweFrom c 10) (dev11_eq c)) $$ [Hs9 Hq9 HO HtS9 HtQ9]
  · isplitr; · iexact HIs9
    isplitr; · iexact HIq9
    isplitl [Hs9]; · iexact Hs9
    isplitl [Hq9]; · iexact Hq9
    isplitl [HO]; · iexact HO
    isplitl [HtS9]; · iexact HtS9
    isplitr; · iexact HrS9
    isplitl [HtQ9]; · iexact HtQ9
    iexact HrQ9
  iintro ⟨HcS9, HO⟩
  ihave Ht := (both_t (F := F) c (x c)) $$ [Ht0 Ht1]
  · isplitl [Ht0]; · iexact Ht0
    iexact Ht1
  sl_exec
  ihave Haw := (restate (F := F)) $$ Ha
  ihave Ha := Haw $$ %(acc x w c) %(fun j _ => acc_cov c x w fa j)
  ihave Hq0 := (Entails.of_eq (pay_recv (snd x w) c 0)) $$ HatR0_pay1
  sl_exec
  ihave Hq1 := (Entails.of_eq (pay_recv (snd x w) c 1)) $$ HatR1_pay1
  sl_exec
  ihave Hq2 := (Entails.of_eq (pay_recv (snd x w) c 2)) $$ HatR2_pay1
  sl_exec
  ihave Hq3 := (Entails.of_eq (pay_recv (snd x w) c 3)) $$ HatR3_pay1
  sl_exec
  ihave Hq4 := (Entails.of_eq (pay_recv (snd x w) c 4)) $$ HatR4_pay1
  sl_exec
  ihave Hq5 := (Entails.of_eq (pay_recv (snd x w) c 5)) $$ HatR5_pay1
  sl_exec
  ihave Hq6 := (Entails.of_eq (pay_recv (snd x w) c 6)) $$ HatR6_pay1
  sl_exec
  ihave Hq7 := (Entails.of_eq (pay_recv (snd x w) c 7)) $$ HatR7_pay1
  sl_exec
  ihave Hq8 := (Entails.of_eq (pay_recv (snd x w) c 8)) $$ HatR8_pay1
  sl_exec
  ihave Hq9 := (Entails.of_eq (pay_recv (snd x w) c 9)) $$ HatR9_pay1
  sl_exec
  ihave Hs0 := (Entails.of_eq (pay_send (snd x w) c 0)) $$ HatS0_pay1
  ihave Hs1 := (Entails.of_eq (pay_send (snd x w) c 1)) $$ HatS1_pay1
  ihave Hs2 := (Entails.of_eq (pay_send (snd x w) c 2)) $$ HatS2_pay1
  ihave Hs3 := (Entails.of_eq (pay_send (snd x w) c 3)) $$ HatS3_pay1
  ihave Hs4 := (Entails.of_eq (pay_send (snd x w) c 4)) $$ HatS4_pay1
  ihave Hs5 := (Entails.of_eq (pay_send (snd x w) c 5)) $$ HatS5_pay1
  ihave Hs6 := (Entails.of_eq (pay_send (snd x w) c 6)) $$ HatS6_pay1
  ihave Hs7 := (Entails.of_eq (pay_send (snd x w) c 7)) $$ HatS7_pay1
  ihave Hs8 := (Entails.of_eq (pay_send (snd x w) c 8)) $$ HatS8_pay1
  ihave Hs9 := (Entails.of_eq (pay_send (snd x w) c 9)) $$ HatS9_pay1
  ihave Hzw := (restate (F := F)) $$ Hz0
  ihave Hz0 := Hzw $$ %(out x w c 0) %(fun j hj => stored_one R0 (fun _ => rfl) S128x512 squeezes_S1x128x512_S128x512 fz0 fo0 _ (k0_pay20 (k0_pay19 (aM.view.readAt (Elt F) R0.toLoadRect (acc x w c))) (rM.view.readAt (Elt F) R0.toLoadRect (snd x w (peer c) 0))) (congrArg (fun a => k0_pay20 (k0_pay19 a) _) (acc_read c x w _)) j hj)
  ihave Hzw := (restate (F := F)) $$ Hz1
  ihave Hz1 := Hzw $$ %(out x w c 1) %(fun j hj => stored_one R1 (fun _ => rfl) S128x512 squeezes_S1x128x512_S128x512 fz1 fo1 _ (k0_pay20 (k0_pay19 (aM.view.readAt (Elt F) R1.toLoadRect (acc x w c))) (rM.view.readAt (Elt F) R1.toLoadRect (snd x w (peer c) 1))) (rfl) j hj)
  ihave Hzw := (restate (F := F)) $$ Hz2
  ihave Hz2 := Hzw $$ %(out x w c 2) %(fun j hj => stored_one R2 (fun _ => rfl) S128x1024 squeezes_S1x128x1024_S128x1024 fz2 fo2 _ (k0_pay24 (k0_pay23 (aM.view.readAt (Elt F) R2.toLoadRect (acc x w c))) (rM.view.readAt (Elt F) R2.toLoadRect (snd x w (peer c) 2))) (rfl) j hj)
  ihave Hzw := (restate (F := F)) $$ Hz3
  ihave Hz3 := Hzw $$ %(out x w c 3) %(fun j hj => stored_one R3 (fun _ => rfl) S128x2048 squeezes_S1x128x2048_S128x2048 fz3 fo3 _ (k0_pay26 (k0_pay25 (aM.view.readAt (Elt F) R3.toLoadRect (acc x w c))) (rM.view.readAt (Elt F) R3.toLoadRect (snd x w (peer c) 3))) (rfl) j hj)
  ihave Hzw := (restate (F := F)) $$ Hz4
  ihave Hz4 := Hzw $$ %(out x w c 4) %(fun j hj => stored_one R4 (fun _ => rfl) S128x2048 squeezes_S1x128x2048_S128x2048 fz4 fo4 _ (k0_pay26 (k0_pay25 (aM.view.readAt (Elt F) R4.toLoadRect (acc x w c))) (rM.view.readAt (Elt F) R4.toLoadRect (snd x w (peer c) 4))) (rfl) j hj)
  ihave Hzw := (restate (F := F)) $$ Hz5
  ihave Hz5 := Hzw $$ %(out x w c 5) %(fun j hj => stored_one R5 (fun _ => rfl) S128x2048 squeezes_S1x128x2048_S128x2048 fz5 fo5 _ (k0_pay26 (k0_pay25 (aM.view.readAt (Elt F) R5.toLoadRect (acc x w c))) (rM.view.readAt (Elt F) R5.toLoadRect (snd x w (peer c) 5))) (rfl) j hj)
  ihave Hzw := (restate (F := F)) $$ Hz6
  ihave Hz6 := Hzw $$ %(out x w c 6) %(fun j hj => stored_one R6 (fun _ => rfl) S128x2048 squeezes_S1x128x2048_S128x2048 fz6 fo6 _ (k0_pay26 (k0_pay25 (aM.view.readAt (Elt F) R6.toLoadRect (acc x w c))) (rM.view.readAt (Elt F) R6.toLoadRect (snd x w (peer c) 6))) (rfl) j hj)
  ihave Hzw := (restate (F := F)) $$ Hz7
  ihave Hz7 := Hzw $$ %(out x w c 7) %(fun j hj => stored_one R7 (fun _ => rfl) S128x2048 squeezes_S1x128x2048_S128x2048 fz7 fo7 _ (k0_pay26 (k0_pay25 (aM.view.readAt (Elt F) R7.toLoadRect (acc x w c))) (rM.view.readAt (Elt F) R7.toLoadRect (snd x w (peer c) 7))) (rfl) j hj)
  ihave Hzw := (restate (F := F)) $$ Hz8
  ihave Hz8 := Hzw $$ %(out x w c 8) %(fun j hj => stored_one R8 (fun _ => rfl) S128x2048 squeezes_S1x128x2048_S128x2048 fz8 fo8 _ (k0_pay26 (k0_pay25 (aM.view.readAt (Elt F) R8.toLoadRect (acc x w c))) (rM.view.readAt (Elt F) R8.toLoadRect (snd x w (peer c) 8))) (rfl) j hj)
  ihave Hzw := (restate (F := F)) $$ Hz9
  ihave Hz9 := Hzw $$ %(out x w c 9) %(fun j hj => stored_one R9 (fun _ => rfl) S128x2048 squeezes_S1x128x2048_S128x2048 fz9 fo9 _ (k0_pay26 (k0_pay25 (aM.view.readAt (Elt F) R9.toLoadRect (acc x w c))) (rM.view.readAt (Elt F) R9.toLoadRect (snd x w (peer c) 9))) (rfl) j hj)
  rw [wp_ret]
  iapply Hk $$ %_
  isplitl [Hx0]; · iexact Hx0
  isplitl [Hx1]; · iexact Hx1
  isplitl [Hw0 Hw1 Hw2 Hw3]
  · isplitl [Hw0]; · iexact Hw0
    isplitl [Hw1]; · iexact Hw1
    isplitl [Hw2]; · iexact Hw2
    iexact Hw3
  isplitl [Ht]; · iexists _; iexact Ht
  isplitl [Hf0 Hf1 Hf2 Hf3]
  · isplitl [Hf0]; · iexists _; iexact Hf0
    isplitl [Hf1]; · iexists _; iexact Hf1
    isplitl [Hf2]; · iexists _; iexact Hf2
    iexists _; iexact Hf3
  isplitl [Hh]; · iexists _; iexact Hh
  isplitl [Ha]; · iexists _; iexact Ha
  isplitl [Hs0 Hs1 Hs2 Hs3 Hs4 Hs5 Hs6 Hs7 Hs8 Hs9]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    iexists _; iexact Hs9
  isplitl [Hq0 Hq1 Hq2 Hq3 Hq4 Hq5 Hq6 Hq7 Hq8 Hq9]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    isplitl [Hq6]; · iexists _; iexact Hq6
    isplitl [Hq7]; · iexists _; iexact Hq7
    isplitl [Hq8]; · iexists _; iexact Hq8
    iexists _; iexact Hq9
  isplitl [Ho0 Ho1 Ho2 Ho3 Ho4 Ho5 Ho6 Ho7 Ho8 Ho9]
  · isplitl [Ho0]; · iexists _; iexact Ho0
    isplitl [Ho1]; · iexists _; iexact Ho1
    isplitl [Ho2]; · iexists _; iexact Ho2
    isplitl [Ho3]; · iexists _; iexact Ho3
    isplitl [Ho4]; · iexists _; iexact Ho4
    isplitl [Ho5]; · iexists _; iexact Ho5
    isplitl [Ho6]; · iexists _; iexact Ho6
    isplitl [Ho7]; · iexists _; iexact Ho7
    isplitl [Ho8]; · iexists _; iexact Ho8
    iexists _; iexact Ho9
  isplitl [Hz0 Hz1 Hz2 Hz3 Hz4 Hz5 Hz6 Hz7 Hz8 Hz9]
  · isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    iexact Hz9
  isplitl [HatB]; · iexact HatB
  isplitl [HatS0 HatS1 HatS2 HatS3 HatS4 HatS5 HatS6 HatS7 HatS8 HatS9]
  · isplitl [HatS0]; · iexact HatS0
    isplitl [HatS1]; · iexact HatS1
    isplitl [HatS2]; · iexact HatS2
    isplitl [HatS3]; · iexact HatS3
    isplitl [HatS4]; · iexact HatS4
    isplitl [HatS5]; · iexact HatS5
    isplitl [HatS6]; · iexact HatS6
    isplitl [HatS7]; · iexact HatS7
    isplitl [HatS8]; · iexact HatS8
    iexact HatS9
  isplitl [HatR0 HatR1 HatR2 HatR3 HatR4 HatR5 HatR6 HatR7 HatR8 HatR9]
  · isplitl [HatR0]; · iexact HatR0
    isplitl [HatR1]; · iexact HatR1
    isplitl [HatR2]; · iexact HatR2
    isplitl [HatR3]; · iexact HatR3
    isplitl [HatR4]; · iexact HatR4
    isplitl [HatR5]; · iexact HatR5
    isplitl [HatR6]; · iexact HatR6
    isplitl [HatR7]; · iexact HatR7
    isplitl [HatR8]; · iexact HatR8
    iexact HatR9
  isplitl [Hm20 Hm21 Hm22 Hm23 Hm24 Hm25 Hm26 Hm27 Hm28 Hm29 Hm30 Hm31 Hm32 Hm33 Hm34 Hm35]
  · isplitl [Hm20]; · iexact Hm20
    isplitl [Hm21]; · iexact Hm21
    isplitl [Hm22]; · iexact Hm22
    isplitl [Hm23]; · iexact Hm23
    isplitl [Hm24]; · iexact Hm24
    isplitl [Hm25]; · iexact Hm25
    isplitl [Hm26]; · iexact Hm26
    isplitl [Hm27]; · iexact Hm27
    isplitl [Hm28]; · iexact Hm28
    isplitl [Hm29]; · iexact Hm29
    isplitl [Hm30]; · iexact Hm30
    isplitl [Hm31]; · iexact Hm31
    isplitl [Hm32]; · iexact Hm32
    isplitl [Hm33]; · iexact Hm33
    isplitl [Hm34]; · iexact Hm34
    iexact Hm35
  iexact HO

end Cert.KernelIdeal.Hand

end
-- ==== Proof.Region.lean ====
module

public import proofs.«01_k».proof.Proof.Body
public import proofs.«01_k».proof.Proof.Gen.KernelIdeal.Launch

@[expose] public section

set_option maxRecDepth 16384

noncomputable section

/-!
# The kernel's region

What enters the kernel call on one device, what leaves it, and the body between. On entry the device puts its twenty
scoped semaphores into the cells set up for them at launch and cuts its buffers into blocks; on exit it takes the
semaphores out again and puts the buffers together.
-/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ UU ℕ

/-! ## Buffers cut into blocks -/

theorem halves (Φ : Fin 2 → sProp 𝕄) : bigSep Finset.univ Φ = iprop(Φ 0 ∗ Φ 1) := BI.bigSep_fin_two Φ

/-- A whole buffer at contents nobody names, cut into blocks. -/
theorem any_blocks {T : Type} [Fintype T] [DecidableEq T] {sp : Space} {s : Shape} {e : EltTy} (c : Dev nD) (M : Memref sig .tc sp s e)
    (hM : M.view.set = Finset.univ) (r : T → Rect s) (of : s.Idx → T) (hr : ∀ t j, j ∈ (r t).set ↔ of j = t) :
    iprop(∃ f, wpt (F := F) c M f) ⊢ bigSep Finset.univ fun t => iprop(∃ f, hpt (F := F) c M (r t) f) :=
  exists_elim fun f => (Entails.of_eq (wpt_blocks c M hM r of hr f)).trans
    (bigSep_mono fun t _ => exists_intro (Φ := fun f => hpt (F := F) c M (r t) f) f)

/-! ## The run's data -/

variable (m : (ℓ : Loc nD τ sig) → Buf (Elt F) ℓ)

/-- A device's buffers at launch, and when the kernel is called. -/
abbrev V₀ (c : Dev nD) : Valuation τ sig (Elt F) := fun b => m (c, b)
abbrev V₁ (c : Dev nD) : Valuation τ sig (Elt F) := StableHlo.after hostOps0 (V₀ m c)
/-- The two operands of the kernel on every device. -/
abbrev xs (c : Dev nD) : Xs F := V₁ m c (Proc.devRef .tc main_v2)
abbrev ws (c : Dev nD) : Ws F := V₁ m c (Proc.devRef .tc main_arg1)
/-- A device's buffers when the kernel has returned. -/
def V₂ (c : Dev nD) : Valuation τ sig (Elt F) := Function.update (V₁ m c) (Proc.devRef .tc main_v3) (OUT (xs m) (ws m) c)

/-- The buffers that live outside the kernel. -/
def bufs : Finset (DevRef τ sig) := (StableHlo.tcRefs τ sig).filter fun b => ¬ b.isScoped

theorem held_eq (c : Dev nD) (W : Valuation τ sig (Elt F)) : (StableHlo.held (c : Thread nD τ) bufs W : sProp 𝕄)
    = iprop(wpt c (Memref.whole main_arg0) (W (Proc.devRef .tc main_arg0)) ∗ wpt c wM (W (Proc.devRef .tc main_arg1))
        ∗ wpt c (Memref.whole main_v1) (W (Proc.devRef .tc main_v1)) ∗ wpt c xM (W (Proc.devRef .tc main_v2)) ∗ wpt c zM (W (Proc.devRef .tc main_v3))) := by
  unfold StableHlo.held
  rw [bigSep_eq_bigSepL_of_eq [Proc.devRef .tc main_arg0, Proc.devRef .tc main_arg1, Proc.devRef .tc main_v1, Proc.devRef .tc main_v2, Proc.devRef .tc main_v3]
    (by decide) (by decide)]
  rfl

theorem V₂_v3 (c : Dev nD) : V₂ m c (Proc.devRef .tc main_v3) = OUT (xs m) (ws m) c := Function.update_self ..
theorem V₂_of_ne (c : Dev nD) {b : Ref sig .tc} (hb : Proc.devRef (τ := τ) .tc b ≠ Proc.devRef .tc main_v3) :
    V₂ m c (Proc.devRef .tc b) = V₁ m c (Proc.devRef .tc b) := Function.update_of_ne hb ..

/-! ## The region's own semaphores -/

/-- Send, receive, and the sixteen of local copies. -/
def osem : Fin 10 ⊕ (Fin 10 ⊕ Fin 16) → SemLoc sig
  | .inl i => .dma (sendS i)
  | .inr (.inl i) => .dma (recvS i)
  | .inr (.inr i) => .dma (dsem ⟨20 + i.val, by omega⟩)

/-- The sixteen, each at zero. -/
def loc16 (c : Dev nD) : sProp 𝕄 := bigSep Finset.univ fun i : Fin 16 => semVal ((c : Thread nD τ), .dma (dsem ⟨20 + i.val, by omega⟩)) 0

theorem ownSems_eq (c : Dev nD) : (Pipeline.ownSems0 osem c : sProp 𝕄)
    = iprop((bigSep Finset.univ fun i => semVal (sendCell c i) 0) ∗ (bigSep Finset.univ fun i => semVal (recvCell c i) 0) ∗ loc16 c) := by
  unfold Pipeline.ownSems0
  rw [bigSep_univ_sum, bigSep_univ_sum]
  rfl

/-- The seven scratch buffers, at contents nobody names. -/
def scratch (c : Dev nD) : sProp 𝕄 :=
  iprop((∃ f, wpt (F := F) c tM f) ∗ (∃ f, wpt (F := F) c fM f) ∗ (∃ f, wpt (F := F) c hM f) ∗ (∃ f, wpt (F := F) c aM f)
    ∗ (∃ f, wpt (F := F) c oM f) ∗ (∃ f, wpt (F := F) c sM f) ∗ (∃ f, wpt (F := F) c rM f))

/-! ## The ghost state -/

abbrev Sch : Rounds.Schedule (GSem nD τ sig) Unit 𝕄 := sched (snd (xs m) (ws m))

section Ghost

variable (K : GSem nD τ sig → ℕ) (c : Dev nD)

/-- The invariants a device consults. -/
def invs : sProp 𝕄 :=
  iprop(cellInv ER (Sch m) (K (barCell (peer c))) (barCell (peer c)) ∗ cellInv ER (Sch m) (K (barCell c)) (barCell c)
    ∗ (bigSep Finset.univ fun i : Fin 10 => cellInv ER (Sch m) (K (sendCell c i)) (sendCell c i))
    ∗ (bigSep Finset.univ fun i : Fin 10 => cellInv ER (Sch m) (K (recvCell c i)) (recvCell c i))
    ∗ (bigSep Finset.univ fun i : Fin 10 => cellInv ER (Sch m) (K (recvCell (peer c) i)) (recvCell (peer c) i)))

instance invs_persistent : BI.Persistent (invs m K c) := by unfold invs; infer_instance

/-- The tokens of what the device pays. -/
def pays : sProp 𝕄 :=
  iprop(dutyTok ER (barCell (peer c)) 0 () ∗ (bigSep Finset.univ fun i : Fin 10 => dutyTok ER (sendCell c i) 0 ())
    ∗ (bigSep Finset.univ fun i : Fin 10 => dutyTok ER (recvCell (peer c) i) 0 ()))

/-- From the launch: the scoped cells not open yet. -/
def ghost : sProp 𝕄 :=
  iprop(invs m K c ∗ atPos ER (barCell c) 0 ∅ 0 ∗ reached ER (barCell (peer c)) 0
    ∗ (bigSep Finset.univ fun i : Fin 10 => openTok ER (sendCell c i)) ∗ (bigSep Finset.univ fun i : Fin 10 => openTok ER (recvCell c i)) ∗ pays c)

/-- In the region: the scoped cells open. -/
def opened : sProp 𝕄 :=
  iprop(invs m K c ∗ atPos ER (barCell c) 0 ∅ 0 ∗ reached ER (barCell (peer c)) 0
    ∗ ((bigSep Finset.univ fun i : Fin 10 => atPos ER (sendCell c i) 0 ∅ 0) ∗ (bigSep Finset.univ fun i : Fin 10 => reached ER (sendCell c i) 0))
    ∗ ((bigSep Finset.univ fun i : Fin 10 => atPos ER (recvCell c i) 0 ∅ 0) ∗ (bigSep Finset.univ fun i : Fin 10 => reached ER (recvCell c i) 0))
    ∗ pays c ∗ loc16 c)

/-- What a device is owed at launch. -/
def due : sProp 𝕄 := iprop(cred (tallyAt (barCell c) () 1) ∗ bigSep Finset.univ fun i : Fin 10 => cred (tallyAt (recvCell c i) () (N i)))

end Ghost

/-- A family of cells opened with their semaphores. -/
theorem open_all (K : GSem nD τ sig → ℕ) (g : Fin 10 → GSem nD τ sig) :
    iprop((bigSep Finset.univ fun i => cellInv ER (Sch m) (K (g i)) (g i)) ∗ (bigSep Finset.univ fun i => openTok ER (g i)) ∗ bigSep Finset.univ fun i => semVal (g i) 0)
      ⊢ (|={Set.univ}=> iprop((bigSep Finset.univ fun i => atPos ER (g i) 0 ∅ 0) ∗ bigSep Finset.univ fun i => reached ER (g i) 0) : sProp 𝕄) := by
  rw [← bigSep_sep', ← bigSep_sep', ← bigSep_sep']
  exact (bigSep_mono fun i _ => Rounds.cell_open ER (Sch m) (g := g i) (Set.mem_univ (K (g i)))).trans (bigSep_fupd _ _)

/-- A family of cells closed, the semaphores out at zero. -/
theorem close_all (K : GSem nD τ sig → ℕ) (g : Fin 10 → GSem nD τ sig) :
    iprop((bigSep Finset.univ fun i => cellInv ER (Sch m) (K (g i)) (g i)) ∗ bigSep Finset.univ fun i => atPos ER (g i) 1 ∅ 0)
      ⊢ (|={Set.univ}=> bigSep Finset.univ fun i => semVal (g i) 0 : sProp 𝕄) := by
  rw [← bigSep_sep']
  exact (bigSep_mono fun i _ => Rounds.cell_close ER (Sch m) (Set.mem_univ (K (g i))) id (duties_later _ (g i))).trans (bigSep_fupd _ _)

theorem hopen (c : Dev nD) : iprop(((∃ K, ghost m K c) ∗ due c) ∗ Pipeline.ownSems0 osem c ∗ levAts L lv)
    ⊢ (|={Set.univ}=> iprop((∃ K, opened m K c) ∗ due c ∗ levAts L lv) : sProp 𝕄) := by
  rw [ownSems_eq]
  iintro ⟨⟨⟨%K, Hg⟩, Hd⟩, ⟨Hs, Hr, Hl⟩, #Hlev⟩
  unfold ghost
  icases Hg with ⟨#HI, Hat, #Hre, HoS, HoR, Hp⟩
  ihave HI' := (show invs m K c ⊢ iprop((bigSep Finset.univ fun i : Fin 10 => cellInv ER (Sch m) (K (sendCell c i)) (sendCell c i))
      ∗ (bigSep Finset.univ fun i : Fin 10 => cellInv ER (Sch m) (K (recvCell c i)) (recvCell c i))) from by
    unfold invs; iintro ⟨-, -, H1, H2, -⟩; isplitl [H1] <;> iassumption) $$ HI
  icases HI' with ⟨HIs, HIr⟩
  imod (open_all m K (sendCell c)) $$ [HIs HoS Hs] with HS
  · isplitl [HIs]; · iexact HIs
    isplitl [HoS] <;> iassumption
  imod (open_all m K (recvCell c)) $$ [HIr HoR Hr] with HR
  · isplitl [HIr]; · iexact HIr
    isplitl [HoR] <;> iassumption
  imodintro
  isplitr [Hd]
  · iexists K; unfold opened
    isplitr; · iexact HI
    isplitl [Hat]; · iexact Hat
    isplitr; · iexact Hre
    isplitl [HS]; · iexact HS
    isplitl [HR]; · iexact HR
    isplitl [Hp] <;> iassumption
  isplitl [Hd]; · iexact Hd
  iexact Hlev

/-! ## The body, from whole buffers to whole buffers -/

theorem own_recv (c : Dev nD) : iprop((∃ f, wpt (F := F) c rM f) ∗ bigSep Finset.univ fun i : Fin 10 => reached ER (recvCell c i) 0)
    ⊢ (barPay (peer c) : sProp 𝕄) := by
  unfold barPay
  rw [peer_peer, bigSep_sep']
  exact sep_mono_left (any_blocks c rM (View.set_whole _) R blkOf mem_R)

/-- The blocks of the result, at the one whole contents. -/
theorem result_blocks (c : Dev nD) : (bigSep Finset.univ fun i => hpt c zM (R i) (out (xs m) (ws m) c i))
    ⊢ (wpt c zM (OUT (xs m) (ws m) c) : sProp 𝕄) := by
  rw [wpt_blocks c zM (View.set_whole _) R blkOf mem_R]
  refine bigSep_mono fun i _ => Entails.of_eq (pointsTo_congr fun j hj => ?_)
  obtain ⟨k, hk, rfl⟩ := Finset.mem_map.mp hj
  show out (xs m) (ws m) c i k = out (xs m) (ws m) c (blkOf k) k
  rw [(mem_R i k).mp hk]

theorem run_region (c : Dev nD) (K : GSem nD τ sig → ℕ) (W : Waits sig Unit) (Kt : PUnit → sProp 𝕄) :
    iprop((opened m K c ∗ due c ∗ levAts L lv ∗ StableHlo.held (c : Thread nD τ) bufs (V₁ m c)) ∗ scratch c ∗ owes (c : Thread nD τ) (O₀ c) W
        ∗ (∀ W', (semVal (barCell c) 0 ∗ StableHlo.held (c : Thread nD τ) bufs (V₂ m c) ∗ Pipeline.ownSems0 osem c ∗ scratch c ∗ owes (c : Thread nD τ) 0 W') -∗ Kt ⟨⟩))
      ⊢ wp frame (wpE (defs₀ (F := F)) 𝒱₀ c none) Set.univ (bodyAt0 (F := F) t0_0) Kt := by
  rw [held_eq, held_eq, ownSems_eq, V₂_v3, V₂_of_ne m c (b := main_arg0) (by decide), V₂_of_ne m c (b := main_arg1) (by decide),
    V₂_of_ne m c (b := main_v1) (by decide), V₂_of_ne m c (b := main_v2) (by decide)]
  unfold opened due pays scratch loc16
  iintro ⟨⟨⟨#HI, Hat, #Hre, ⟨HatS, HrS⟩, ⟨HatR, HrR⟩, ⟨HtP, HtS, HtR⟩, Hl⟩, ⟨HcB, HcR⟩, #Hlev, ⟨Ha0, Hw, Hv1, Hx, Hz⟩⟩, ⟨Ht, Hf, Hh, Ha, Ho, Hs, Hr⟩, HO, Hk⟩
  ihave HI' := (show invs m K c ⊢ _ from by unfold invs; exact .rfl) $$ HI
  icases HI' with ⟨#HIp, #HIb, #HIs, #HIr, #HIq⟩
  ihave Hbp := (own_recv c) $$ [Hr HrR]
  · isplitl [Hr] <;> iassumption
  ihave Hx' := (Entails.of_eq ((wpt_blocks c xM (View.set_whole _) Bt (fun j => j 0) mem_Bt _).trans (halves _))) $$ Hx
  icases Hx' with ⟨Hx0, Hx1⟩
  ihave Hw' := (Entails.of_eq (wpt_blocks c wM (View.set_whole _) Q qOf mem_Q _)) $$ Hw
  ihave Ht' := ((any_blocks c tM (View.set_whole _) Bt (fun j => j 0) mem_Bt).trans (Entails.of_eq (halves _))) $$ Ht
  icases Ht' with ⟨Ht0, Ht1⟩
  ihave Hf' := (any_blocks c fM (View.set_whole _) Q qOf mem_Q) $$ Hf
  ihave Ho' := (any_blocks c oM (View.set_whole _) R blkOf mem_R) $$ Ho
  ihave Hs' := (any_blocks c sM (View.set_whole _) R blkOf mem_R) $$ Hs
  ihave Hz' := ((exists_intro (Φ := fun f => wpt (F := F) c zM f) _).trans (any_blocks c zM (View.set_whole _) R blkOf mem_R)) $$ Hz
  iapply (run_body (xs m) (ws m) K c W Kt)
  isplitr [Hk Ha0 Hv1]
  · unfold bodyPre
    isplitr; · iexact Hlev
    isplitr; · iexact HIp
    isplitr; · iexact HIb
    isplitl [HtP]; · iexact HtP
    isplitr; · iexact Hre
    isplitl [Hat]; · iexact Hat
    isplitl [HcB]; · iexact HcB
    isplitl [Hbp]; · iexact Hbp
    isplitl [Hx0]; · iexact Hx0
    isplitl [Hx1]; · iexact Hx1
    isplitl [Hw']; · iexact Hw'
    isplitl [Ht0]; · iexact Ht0
    isplitl [Ht1]; · iexact Ht1
    isplitl [Hf']; · iexact Hf'
    isplitl [Hh]; · iexact Hh
    isplitl [Ha]; · iexact Ha
    isplitl [Hs']; · iexact Hs'
    isplitl [Ho']; · iexact Ho'
    isplitl [Hz']; · iexact Hz'
    isplitr; · iexact HIs
    isplitr; · iexact HIr
    isplitr; · iexact HIq
    isplitl [HtS]; · iexact HtS
    isplitl [HrS]; · iexact HrS
    isplitl [HtR]; · iexact HtR
    isplitl [HatS]; · iexact HatS
    isplitl [HatR]; · iexact HatR
    isplitl [HcR]; · iexact HcR
    isplitl [Hl]; · iexact Hl
    iexact HO
  unfold bodyPost
  iintro %W' ⟨Hx0, Hx1, Hw, Ht, Hf, Hh, Ha, Hs, Hr, Ho, Hz, HatB, HatS, HatR, Hl, HO⟩
  imod (Rounds.cell_close ER (Sch m) (Set.mem_univ (K (barCell c))) id (duties_later _ (barCell c))) $$ [HatB] with HvB
  · isplitr; · iexact HIb
    iexact HatB
  imod (close_all m K (sendCell c)) $$ [HatS] with HvS
  · isplitr; · iexact HIs
    iexact HatS
  imod (close_all m K (recvCell c)) $$ [HatR] with HvR
  · isplitr; · iexact HIr
    iexact HatR
  imodintro
  iapply Hk $$ %W'
  isplitl [HvB]; · iexact HvB
  isplitl [Ha0 Hv1 Hx0 Hx1 Hw Hz]
  · isplitl [Ha0]; · iexact Ha0
    isplitl [Hw]; · iapply (Entails.of_eq (wpt_blocks c wM (View.set_whole _) Q qOf mem_Q _).symm) $$ Hw
    isplitl [Hv1]; · iexact Hv1
    isplitl [Hx0 Hx1]
    · iapply (Entails.of_eq ((wpt_blocks c xM (View.set_whole _) Bt (fun j => j 0) mem_Bt _).trans (halves _)).symm)
      isplitl [Hx0]; · iexact Hx0
      iexact Hx1
    iapply (result_blocks m c) $$ Hz
  isplitl [HvS HvR Hl]
  · isplitl [HvS]; · iexact HvS
    isplitl [HvR]; · iexact HvR
    iexact Hl
  isplitr [HO]
  · isplitl [Ht]; · iexact Ht
    isplitl [Hf]; · iapply (blocks_any c fM (View.set_whole _) Q qOf mem_Q) $$ Hf
    isplitl [Hh]; · iexact Hh
    isplitl [Ha]; · iexact Ha
    isplitl [Ho]; · iapply (blocks_any c oM (View.set_whole _) R blkOf mem_R) $$ Ho
    isplitl [Hs]; · iapply (blocks_any c sM (View.set_whole _) R blkOf mem_R) $$ Hs
    iapply (blocks_any c rM (View.set_whole _) R blkOf mem_R) $$ Hr
  iexact HO

/-! ## The region's data and its body's obligation -/

/-- What the region starts from, and what it ends with. -/
def X1 (c : Dev nD) : sProp 𝕄 :=
  iprop(((∃ K, opened m K c) ∗ due c ∗ levAts L lv ∗ StableHlo.held (c : Thread nD τ) bufs (V₁ m c)) ∗ scratch c ∗ ∃ r, prngReg c r)
def Y1 (c : Dev nD) : sProp 𝕄 :=
  iprop((semVal (barCell c) 0 ∗ StableHlo.held (c : Thread nD τ) bufs (V₂ m c) ∗ Pipeline.ownSems0 osem c) ∗ scratch c ∗ ∃ r, prngReg c r)

def dat (c : Dev nD) : Dat τ (Elt F) Unit ℕ UU ℕ cfg0 c where
  A w := w.elim0
  after w := w.elim0
  Φ t := if t.val = 0 then X1 m c else Y1 m c
  q w := w.elim0
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ c => dat m c

theorem bigSep_none {M : Type} [URA M] (Φ : Fin 0 → sProp M) : bigSep Finset.univ Φ = (BI.emp : sProp M) :=
  bigSep_univ_eq_bigSepL [] (by decide) (by decide) Φ

theorem owed_zero (c : Dev nD) : (pdats m 0 c).owed 0 = O₀ c := by
  show (if ((0 : Fin (cfg0.N + 1)).val = 0) then O₀ c else 0) = O₀ c
  exact if_pos rfl
theorem owed_first (c : Dev nD) : (dat m c).owed t0_0.castSucc = O₀ c := by
  show (if (t0_0.castSucc : Fin (cfg0.N + 1)).val = 0 then O₀ c else 0) = O₀ c
  exact if_pos rfl
theorem owed_last (c : Dev nD) : (pdats m 0 c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h : (dat m c).owed t = O) (W : Waits sig Unit) :
    (owes (c : Thread nD τ) O W : sProp 𝕄) ⊢ ((dat m c).owesAt () t : sProp 𝕄) := by
  unfold Dat.owesAt Pipeline.owesWithin Dat.bound
  rw [h]
  iintro HO; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩; iexists W; iexact HO

theorem body (c : Dev nD) : BodyObligation (dat m c) (defs₀ (F := F)) 𝒱₀ () Set.univ := fun t => by
  obtain rfl := fin_N0 t
  rw [bigSep_none, bigSep_none]
  rw [show (dat m c).Φ t0_0.castSucc = X1 m c from rfl, show (dat m c).Φ t0_0.succ = Y1 m c from rfl]
  unfold X1 Y1
  iintro ⟨⟨⟨⟨%K, Hg⟩, Hd, Hlev, Hh⟩, Hs, Hreg⟩, HO, -⟩
  ihave HO' := (owesAt_elim m c _ (O₀ c) (owed_first m c)) $$ HO
  icases HO' with ⟨%W, HO⟩
  iapply (run_region m c K W _)
  isplitl [Hg Hd Hlev Hh]
  · isplitl [Hg]; · iexact Hg
    isplitl [Hd]; · iexact Hd
    isplitl [Hlev] <;> iassumption
  isplitl [Hs]; · iexact Hs
  isplitl [HO]; · iexact HO
  iintro %W' ⟨Hb, Hh, Hos, Hs, HO⟩
  isplitr [HO]
  · isplitl [Hb Hh Hos]
    · isplitl [Hb]; · iexact Hb
      isplitl [Hh] <;> iassumption
    isplitl [Hs] <;> iassumption
  isplitl [HO]; · iapply (owesAt_intro m c t0_0.succ 0 (owed_last m c) W'); iexact HO
  iempintro

end Cert.KernelIdeal.Hand

end
-- ==== Proof.Launch.lean ====
module

public import proofs.«01_k».proof.Proof.Region
public import Idealize.ShloMosaic.Harness.Basic

@[expose] public section

set_option maxRecDepth 16384

noncomputable section

/-!
# The run of the whole program

Every cell is set up at launch: a device's barrier from its counter, its twenty scoped semaphores dormant until the
kernel's region opens them. Every device then runs two host operations and the region, and the final state holds the
arguments unchanged, the sums in the result, and every counter at zero.
-/

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [∀ e, Nonempty (Elt F e)]

local notation "𝕄" => MT nD τ sig Unit (Elt F) ℕ UU ℕ

variable (m : (ℓ : Loc nD τ sig) → Buf (Elt F) ℓ) (ρ : Dev nD → PrngReg)

/-! ## The two segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The protocol's state at launch. -/
def start (c : Dev nD) : sProp 𝕄 := iprop(((∃ K, ghost m K c) ∗ due c) ∗ ∃ r, prngReg c r)
/-- What rides along beside the buffers. -/
def rides (c : Dev nD) : sProp 𝕄 := iprop(start m c ∗ ∃ W, owes (c : Thread nD τ) (O₀ c) W)

theorem ops_sub : ∀ op ∈ (hostOps0 : List (HloOp τ sig (Elt F))), op.bufs ⊆ bufs := fun op h => by
  simp only [List.mem_cons, List.not_mem_nil, or_false] at h
  rcases h with rfl | rfl
  · show ({Proc.devRef .tc main_arg0, Proc.devRef .tc main_v1} : Finset (DevRef τ sig)) ⊆ bufs; decide
  · show ({Proc.devRef .tc main_v1, Proc.devRef .tc main_v2} : Finset (DevRef τ sig)) ⊆ bufs; decide
theorem ops_fresh : ∀ op ∈ (hostOps0 : List (HloOp τ sig (Elt F))), op.fresh = ∅ := fun op h => by
  simp only [List.mem_cons, List.not_mem_nil, or_false] at h
  rcases h with rfl | rfl <;> rfl

def host : ℍ := Pipeline.HostSeg.ofOps _ _ _ _ _ bufs hostOps0 ops_sub ops_fresh (V₀ m) (rides m)

theorem kit : Pipeline.PLaunchFacts (nD := nD) (τ := τ) (pcfgs (F := F)) 0 where
  cellOf_inj a := by rw [Subsingleton.elim a adm]; exact cellOf_inj
  win := (by decide : Pipeline.WinFacts cfg0.spec)
  pre := Pipeline.PreFacts.none _
  block_pos w := w.elim0
  arr_whole w := w.elim0
  stage_whole w := w.elim0

theorem O₀_pos {c : Dev nD} {g : GSem nD τ sig} {u : Unit} (h : 0 < O₀ c g u) : (∃ i, g = recvCell (peer c) i) ∨ g = barCell (peer c) := by
  unfold O₀ at h
  rw [Pi.add_apply, Finsupp.add_apply] at h
  rcases Nat.add_pos_iff_pos_or_pos.mp h with h | h
  · exact .inl (onlyRecv_from c 0 g u h)
  · rw [tallyAt_apply] at h
    split at h
    · next hg => exact .inr hg.1
    · exact absurd h (Nat.lt_irrefl 0)

/-- Everything owed lies above level 0. -/
theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases O₀_pos h with ⟨j, rfl⟩ | rfl
    · exact ⟨by rw [L_tc]; exact Finset.mem_singleton_self _, by dsimp only [lv]; rw [cell_recv]; exact Nat.two_pos⟩
    · exact ⟨by rw [L_tc]; exact Finset.mem_singleton_self _, by dsimp only [lv]; rw [cell_bar]; exact Nat.one_pos⟩
  · exact absurd h (Nat.lt_irrefl 0)

theorem scopedRest_eq (c : Dev nD) :
    (Pipeline.scopedRest (Ix := Unit) (Name := ℕ) (U := UU) (Lvl := ℕ) (Val := Elt F) (Pipeline.pin (pcfgs (F := F)) adm 0).spec c : sProp 𝕄) = scratch c :=
  scopedRest0_eq c

abbrev Xk (c : Dev nD) : sProp 𝕄 := iprop((∃ K, opened m K c) ∗ due c ∗ levAts L lv)
abbrev Yk (c : Dev nD) : sProp 𝕄 := semVal (barCell c) 0

theorem hin (c : Dev nD) : iprop(Pipeline.scopedRest (Pipeline.pin (pcfgs (F := F)) adm 0).spec c ∗ (∃ r, prngReg c r) ∗ StableHlo.held (c.tc : Thread nD τ) bufs (V₁ m c) ∗ Xk m c)
    ⊢ (pdats m 0 c).Φ 0 := by
  rw [show (pdats m 0 c).Φ 0 = X1 m c from rfl, scopedRest_eq]
  unfold X1
  iintro ⟨Hs, Hp, Hh, HK, Hd, Hlev⟩
  isplitl [Hh HK Hd Hlev]
  · isplitl [HK]; · iexact HK
    isplitl [Hd]; · iexact Hd
    isplitl [Hlev] <;> iassumption
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) bufs (V₂ m c)
      ∗ Pipeline.ownSems0 osem c ∗ Yk c) := by
  rw [show (pdats m 0 c).Φ (Fin.last _) = Y1 m c from rfl, scopedRest_eq]
  unfold Y1
  iintro ⟨⟨Hb, Hh, Hos⟩, Hs, Hp⟩
  isplitl [Hs]; · iexact Hs
  isplitl [Hp]; · iexact Hp
  isplitl [Hh]; · iexact Hh
  isplitl [Hos] <;> iassumption

theorem own_sems : Pipeline.OwnSemFacts cfg0.spec osem := by decide

set_option backward.isDefEq.respectTransparency.types false in
def region : ℝ𝕊 0 :=
  Pipeline.RegionSeg.ofTalk (pcfgs (F := F)) adm (pdats m) () defs₀ 𝒱₀ L lv 0 osem own_sems
    bufs bufs (Finset.Subset.refl _) kit rfl (fun c => (body m c).loose)
    (fun _ => 0) O₀ (fun c => (owed_zero m c).trans (zero_add _).symm) (owed_last m) (fun _ => rfl) (fun _ w => w.elim0)
    (V₁ m) (V₂ m) (fun _ b hb => absurd hb (by rw [Finset.sdiff_self]; exact Finset.notMem_empty b))
    (fun c => iprop((∃ K, ghost m K c) ∗ due c)) Yk (Xk m) Yk (hopen m) (hin m) (hout m)
    (fun c => by iintro H; imodintro; iexact H)
    (fun _ => 0)
    ⟨fun _ w => w.elim0, fun _ w => w.elim0, fun c t g i h => cut m c t g i h⟩
    (fun _ => iprop(emp))
    (fun _ w => w.elim0) (fun _ w => w.elim0)

theorem held_windows (c : Dev nD) (W : Valuation τ sig (Elt F)) :
    (StableHlo.held (c.tc : Thread nD τ) (Pipeline.arrRefs (τ := τ) (pcfgs (F := F) 0).spec) W : sProp 𝕄) = BI.emp := by
  have : Pipeline.arrRefs (τ := τ) (pcfgs (F := F) 0).spec = ∅ := by
    unfold Pipeline.arrRefs
    rw [Finset.map_eq_empty, Finset.image_eq_empty, Finset.univ_eq_empty]
  rw [this]
  unfold StableHlo.held
  exact BI.bigSep_empty

theorem region_pre (c : Dev nD) : iprop(StableHlo.held (c : Thread nD τ) bufs (V₁ m c) ∗ rides m c) ⊢ (region m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ ((∃ K, ghost m K c) ∗ due c) ∗ ∃ Wd, owes (c : Thread nD τ) (0 + O₀ c) Wd)
  rw [held_windows, zero_add]
  unfold rides start
  iintro ⟨Hh, ⟨HT, Hp⟩, HO⟩
  isplitr; · iempintro
  isplitl [Hp]; · iexact Hp
  isplitl [Hh]
  · isplitl [Hh]; · iexact Hh
    iempintro
  isplitl [HT] <;> iassumption

/-- What a device holds before @main and after it. -/
abbrev T₀ (c : Dev nD) : sProp 𝕄 := iprop(StableHlo.held (c : Thread nD τ) bufs (V₀ m c) ∗ rides m c)
abbrev Tₙ (c : Dev nD) : sProp 𝕄 := iprop(StableHlo.held (c : Thread nD τ) bufs (V₂ m c) ∗ semVal (barCell c) 0)

theorem region_post (c : Dev nD) : (region m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) bufs (V₂ m c) ∗ emp) ∗ Yk c ∗ ∃ Wd, owes (c : Thread nD τ) (0 : CellTallies nD τ sig Unit) Wd) ⊢ _
  rw [held_windows]
  iintro ⟨-, -, ⟨Hh, -⟩, Hb, HO⟩
  isplitr [HO]
  · isplitl [Hh] <;> iassumption
  iexact HO

def segs : List (Pipeline.Seg (pcfgs (F := F)) adm (pdats m) () defs₀ 𝒱₀ L lv) := [.host (host m), .region (region m)]

/-! ## The cells at launch -/

def barEmb : Dev nD ↪ GSem nD τ sig := ⟨fun c => barCell c, fun _ _ h => congrArg (fun g : GSem nD τ sig => g.1.1) h⟩
def ends : Fin 10 ⊕ Fin 10 → SemLoc sig := fun k => osem (k.elim .inl fun i => .inr (.inl i))
theorem ends_inj : Function.Injective ends := by decide
theorem ends_ne_bar : ∀ k, ends k ≠ .reg barrier0 := by decide
def endEmb : Dev nD × (Fin 10 ⊕ Fin 10) ↪ GSem nD τ sig :=
  ⟨fun ck => ((ck.1 : Thread nD τ), ends ck.2), fun _ _ h =>
    Prod.ext (congrArg (fun g : GSem nD τ sig => g.1.1) h) (ends_inj (congrArg Prod.snd h))⟩

/-- The barriers, and the two ends of every copy. -/
abbrev bars : Finset (GSem nD τ sig) := Finset.univ.map barEmb
abbrev copies : Finset (GSem nD τ sig) := Finset.univ.map endEmb
abbrev cells : Finset (GSem nD τ sig) := bars ∪ copies
/-- One duty a cell. -/
abbrev duty : GSem nD τ sig ↪ GSem nD τ sig × ℕ × Unit := ⟨fun g => (g, 0, ()), fun _ _ h => congrArg Prod.fst h⟩
abbrev duties : Finset (GSem nD τ sig × ℕ × Unit) := cells.map duty

theorem cells_disjoint : Disjoint bars copies := by
  rw [Finset.disjoint_left]
  rintro g h₁ h₂
  obtain ⟨c, -, rfl⟩ := Finset.mem_map.mp h₁
  obtain ⟨ck, -, h⟩ := Finset.mem_map.mp h₂
  exact ends_ne_bar ck.2 (congrArg Prod.snd h)

theorem bar_mem (c : Dev nD) : barCell c ∈ cells := Finset.mem_union_left _ (Finset.mem_map_of_mem barEmb (Finset.mem_univ c))
theorem send_mem (c : Dev nD) (i : Fin 10) : sendCell c i ∈ cells :=
  Finset.mem_union_right _ (Finset.mem_map_of_mem endEmb (Finset.mem_univ (c, (.inl i : Fin 10 ⊕ Fin 10))))
theorem recv_mem (c : Dev nD) (i : Fin 10) : recvCell c i ∈ cells :=
  Finset.mem_union_right _ (Finset.mem_map_of_mem endEmb (Finset.mem_univ (c, (.inr i : Fin 10 ⊕ Fin 10))))

/-- A family over the barriers, and one over the copies' ends, device by device. -/
theorem over_bars (Φ : GSem nD τ sig → sProp 𝕄) : bigSep bars Φ = bigSep Finset.univ fun c : Dev nD => Φ (barCell c) := by
  rw [bigSep_map]; rfl
theorem over_copies (Φ : GSem nD τ sig → sProp 𝕄) : bigSep copies Φ = bigSep Finset.univ fun c : Dev nD =>
    iprop((bigSep Finset.univ fun i : Fin 10 => Φ (sendCell c i)) ∗ bigSep Finset.univ fun i : Fin 10 => Φ (recvCell c i)) := by
  rw [bigSep_map, bigSep_univ_prod]
  refine bigSep_congr fun c _ => ?_
  rw [bigSep_univ_sum]
  rfl

theorem pair_up (Φ Ψ : Dev nD → sProp 𝕄) : iprop(bigSep Finset.univ Φ ∗ bigSep Finset.univ Ψ) ⊢ bigSep Finset.univ fun c => iprop(Φ c ∗ Ψ c) :=
  Entails.of_eq (bigSep_sep' ..).symm

/-- The launch element: the pipeline library's, and the exchange's. -/
def u₀ : UU :=
  (initOf (Pipeline.cells (Pipeline.pin (pcfgs (F := F)) adm) cellOf_inj) (Pipeline.launchToks (Pipeline.pin (pcfgs (F := F)) adm) cellOf_inj),
    (launchOf bars copies duties, 1))

/-- All of a resource on device 0. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero
  rw [if_pos rfl]
  exact BI.equiv_iff.mp sep_emp

abbrev funds : sProp 𝕄 := BI.own (ER (launchOf bars copies duties))

/-- What every device may consult: all invariants, and that every barrier is in its first round. -/
def records (κ : GSem nD τ sig → ℕ) : sProp 𝕄 :=
  iprop((bigSep cells fun g => cellInv ER (Sch m) (κ g) g) ∗ bigSep bars fun g => reached ER g 0)
instance records_persistent (κ : GSem nD τ sig → ℕ) : BI.Persistent (records m κ) := by unfold records; infer_instance

theorem inv_at (κ : GSem nD τ sig → ℕ) {g : GSem nD τ sig} (hg : g ∈ cells) :
    (bigSep cells fun g => (cellInv ER (Sch m) (κ g) g : sProp 𝕄)) ⊢ cellInv ER (Sch m) (κ g) g := bigSep_elim hg
theorem reached_at (c : Dev nD) : (bigSep bars fun g => (reached ER g 0 : sProp 𝕄)) ⊢ reached ER (barCell c) 0 :=
  bigSep_elim (Finset.mem_map_of_mem barEmb (Finset.mem_univ c))
theorem invs_at (κ : GSem nD τ sig → ℕ) (g : Fin 10 → GSem nD τ sig) (hg : ∀ i, g i ∈ cells) :
    (bigSep cells fun g => (cellInv ER (Sch m) (κ g) g : sProp 𝕄)) ⊢ bigSep Finset.univ fun i => cellInv ER (Sch m) (κ (g i)) (g i) := by
  refine BIBase.Entails.trans ?_ (bigSep_with_persistent (R := bigSep cells fun g => (cellInv ER (Sch m) (κ g) g : sProp 𝕄)) (Φ := fun _ => (BI.emp : sProp 𝕄)) (S := Finset.univ)
    fun i _ => sep_elim_left.trans (inv_at m κ (hg i)))
  rw [BI.bigSep_emp_const]
  exact Entails.of_eq (BI.equiv_iff.mp sep_emp).symm

/-- What stays with one device. -/
def keeps (c : Dev nD) : sProp 𝕄 :=
  iprop(atPos ER (barCell c) 0 ∅ 0
    ∗ ((bigSep Finset.univ fun i : Fin 10 => openTok ER (sendCell c i)) ∗ bigSep Finset.univ fun i : Fin 10 => openTok ER (recvCell c i)) ∗ pays c)

theorem ghost_intro (κ : GSem nD τ sig → ℕ) (c : Dev nD) : iprop(records m κ ∗ keeps c) ⊢ iprop(∃ K, ghost m K c) := by
  unfold records keeps ghost invs
  iintro ⟨⟨#HI, #HR⟩, HaB, ⟨HoS, HoR⟩, Ht⟩
  iexists κ
  isplitr
  · isplitr; · iapply (inv_at m κ (bar_mem (peer c))); iexact HI
    isplitr; · iapply (inv_at m κ (bar_mem c)); iexact HI
    isplitr; · iapply (invs_at m κ (sendCell c) (send_mem c)); iexact HI
    isplitr; · iapply (invs_at m κ (recvCell c) (recv_mem c)); iexact HI
    iapply (invs_at m κ (recvCell (peer c)) (recv_mem (peer c))); iexact HI
  isplitl [HaB]; · iexact HaB
  isplitr; · iapply (reached_at (F := F) (peer c)); iexact HR
  isplitl [HoS]; · iexact HoS
  isplitl [HoR] <;> iassumption

/-- The tokens, each handed to the device that pays the duty. -/
theorem tokens : bigSep duties (fun x => (dutyTok ER x.1 x.2.1 x.2.2 : sProp 𝕄)) ⊢ bigSep Finset.univ fun c : Dev nD => pays c := by
  unfold pays
  rw [bigSep_map]
  show bigSep cells (fun g => (dutyTok ER g 0 () : sProp 𝕄)) ⊢ _
  rw [bigSep_union cells_disjoint, over_bars, over_copies, bigSep_sep', bigSep_sep', bigSep_sep',
    bigSep_univ_equiv swap (fun c : Dev nD => (dutyTok ER (barCell c) 0 () : sProp 𝕄)),
    bigSep_univ_equiv swap (fun c : Dev nD => (bigSep Finset.univ fun i : Fin 10 => dutyTok ER (recvCell c i) 0 () : sProp 𝕄))]
  exact BI.Entails.refl _

/-! ## What a device is owed at launch -/

theorem recvS_inj {i j : Fin 10} (h : (SemLoc.dma (recvS i) : SemLoc sig) = .dma (recvS j)) : i = j := by
  revert i j; decide
theorem recvS_ne_bar (i : Fin 10) : (SemLoc.dma (recvS i) : SemLoc sig) ≠ .reg barrier0 := by
  revert i; decide
theorem peer_eq {c d : Dev nD} (h : c = peer d) : d = peer c := by rw [h, peer_peer]

theorem oweFrom_sum (d : Dev nD) : oweFrom d 0 = ∑ i : Fin 10, owe d i := by
  simp only [Fin.sum_univ_succ, Finset.univ_eq_empty, Finset.sum_empty]
  show 0 + owe d 9 + owe d 8 + owe d 7 + owe d 6 + owe d 5 + owe d 4 + owe d 3 + owe d 2 + owe d 1 + owe d 0
    = owe d 0 + (owe d 1 + (owe d 2 + (owe d 3 + (owe d 4 + (owe d 5 + (owe d 6 + (owe d 7 + (owe d 8 + (owe d 9 + 0)))))))))
  simp only [zero_add, add_zero]
  ac_rfl

theorem oweFrom_at (d : Dev nD) (g : GSem nD τ sig) : oweFrom d 0 g () = ∑ k : Fin 10, if g = recvCell (peer d) k then N k else 0 := by
  rw [oweFrom_sum, Finset.sum_apply, Finsupp.finset_sum_apply]
  refine Finset.sum_congr rfl fun k _ => ?_
  rw [tallyAt_apply]
  by_cases h : g = recvCell (peer d) k
  · rw [if_pos ⟨h, rfl⟩, if_pos h]
  · rw [if_neg (fun h' => h h'.1), if_neg h]

theorem owed_bar (d c : Dev nD) : O₀ d (barCell c) () = if d = peer c then 1 else 0 := by
  unfold O₀
  rw [Pi.add_apply, Finsupp.add_apply, oweFrom_at,
    Finset.sum_eq_zero fun k _ => if_neg fun h => recvS_ne_bar k (congrArg Prod.snd h).symm, tallyAt_apply, Nat.zero_add]
  by_cases h : d = peer c
  · rw [if_pos h, if_pos ⟨by rw [h, peer_peer], rfl⟩]
  · rw [if_neg h, if_neg fun h' => h (peer_eq (congrArg (fun g : GSem nD τ sig => g.1.1) h'.1))]

theorem owed_recv (d c : Dev nD) (i : Fin 10) : O₀ d (recvCell c i) () = if d = peer c then N i else 0 := by
  unfold O₀
  rw [Pi.add_apply, Finsupp.add_apply, oweFrom_at, tallyAt_ne_cell (fun h => recvS_ne_bar i (congrArg Prod.snd h)), Finsupp.zero_apply, Nat.add_zero]
  by_cases h : d = peer c
  · rw [if_pos h, Finset.sum_eq_single i, if_pos (by rw [h, peer_peer])]
    · exact fun k _ hk => if_neg fun h' => hk (recvS_inj (congrArg Prod.snd h')).symm
    · exact fun hi => absurd (Finset.mem_univ i) hi
  · rw [if_neg h]
    exact Finset.sum_eq_zero fun k _ => if_neg fun h' => h (peer_eq (congrArg (fun g : GSem nD τ sig => g.1.1) h'))

theorem launch_at (c : Dev nD) (sm : SemLoc sig) (n : ℕ) (h : ∀ d, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (peer c) fun _ => n,
    if_pos (Finset.mem_univ _)]

abbrev recvEmb : Fin 10 ↪ SemLoc sig := ⟨fun i => .dma (recvS i), fun _ _ h => recvS_inj h⟩

theorem creds (c : Dev nD) : (Pipeline.launchCred O₀ c : sProp 𝕄) ⊢ due c := by
  have hsub : Finset.univ.map recvEmb ⊆ (Finset.univ.erase (SemLoc.reg barrier0) : Finset (SemLoc sig)) := fun sm h => by
    obtain ⟨i, -, rfl⟩ := Finset.mem_map.mp h
    exact Finset.mem_erase.mpr ⟨recvS_ne_bar i, Finset.mem_univ _⟩
  unfold Pipeline.launchCred due
  rw [bigSep_univ_at _ (SemLoc.reg barrier0), launch_at c (.reg barrier0) 1 (fun d => owed_bar d c), bigSep_sdiff_split hsub, bigSep_map]
  refine sep_mono_right (sep_elim_left.trans (bigSep_mono fun i _ => ?_))
  show (cred (tallyOn (recvCell c i) (launchCredit (Pipeline.owing O₀) 0 (recvCell c i))) : sProp 𝕄) ⊢ cred (tallyAt (recvCell c i) () (N i))
  exact Entails.of_eq (congrArg cred (launch_at c (.dma (recvS i)) (N i) fun d => owed_recv d c i))

/-! ## The run -/

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

theorem unscoped_eq : ∀ sm : SemLoc sig, sm.isScoped .tc = false → sm = .reg barrier0 := by decide

/-- A device's launch holdings, the exchange's ghost state apart. -/
def rest (c : Dev nD) : sProp 𝕄 :=
  iprop(StableHlo.held (c : Thread nD τ) bufs (V₀ m c) ∗ due c ∗ owes (c : Thread nD τ) (O₀ c) ∅ ∗ ∃ r, prngReg c r)

theorem T₀_intro (κ : GSem nD τ sig → ℕ) (c : Dev nD) : iprop(records m κ ∗ (keeps c ∗ rest m c)) ⊢ T₀ m c := by
  unfold rest T₀ rides start
  iintro ⟨#HR, Hl, Hh, Hd, HO, Hp⟩
  isplitl [Hh]; · iexact Hh
  isplitr [HO]
  · isplitr [Hp]
    · isplitl [Hl]
      · iapply (ghost_intro m κ c)
        isplitr; · iexact HR
        iexact Hl
      iexact Hd
    iexact Hp
  iexists ∅; iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atZero funds c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ atZero funds c)
      ⊢ (iprop(rest m c ∗ (semVal (barCell c) 0 ∗ atZero funds c)) : sProp 𝕄) := by
    rw [show unscopedBufs c (fun b => m ((c : Thread nD τ).loc b)) = StableHlo.held (c : Thread nD τ) bufs (V₀ m c) from unscopedBufs_held c (V₀ m c),
      unscopedSems0_eq]
    unfold rest
    iintro ⟨Hh, Hus, HO, Hcr, Hp, HG⟩
    isplitl [Hh HO Hcr Hp]
    · isplitl [Hh]; · iexact Hh
      isplitl [Hcr]; · iapply (creds c) $$ Hcr
      isplitl [HO]; · iexact HO
      iexists (ρ c); iexact Hp
    isplitl [Hus] <;> iassumption
  refine BIBase.Entails.trans (sep_elim_left.trans (bigSep_mono fun c _ => hcore c)) ?_
  rw [bigSep_sep', bigSep_sep', bigSep_atZero]
  iintro ⟨HB, Hv, Hu⟩
  imod (Rounds.fund_launch ER (Sch m) cells_disjoint (fun g _ h => h) duties) $$ [Hv Hu] with ⟨%κ, -, #Hinv, #Hr, Hat, Hopen, Htok⟩
  · isplitl [Hv]
    · iapply (Entails.of_eq (over_bars fun g => (semVal g 0 : sProp 𝕄)).symm) $$ Hv
    · iexact Hu
  imodintro
  iapply (bigSep_with_persistent (R := records m κ) (Φ := fun c => iprop(keeps c ∗ rest m c)) fun c _ => T₀_intro m κ c)
  isplitr
  · unfold records
    isplitr; · iexact Hinv
    iexact Hr
  iapply pair_up
  isplitr [HB]
  · unfold keeps
    iapply pair_up; isplitl [Hat]; · iapply (Entails.of_eq (over_bars fun g => (atPos ER g 0 ∅ 0 : sProp 𝕄))) $$ Hat
    iapply pair_up; isplitl [Hopen]; · iapply (Entails.of_eq (over_copies fun g => (openTok ER g : sProp 𝕄))) $$ Hopen
    iapply tokens $$ Htok
  · iexact HB

theorem V₂_arg0 (c : Dev nD) : V₂ m c (Proc.devRef .tc main_arg0) = m ((c : Thread nD τ).loc main_arg0) := by
  rw [V₂_of_ne m c (by decide)]; exact V_main_arg0 m c
theorem V₂_arg1 (c : Dev nD) : V₂ m c (Proc.devRef .tc main_arg1) = m ((c : Thread nD τ).loc main_arg1) := by
  rw [V₂_of_ne m c (by decide)]; exact V_main_arg1 m c

set_option backward.isDefEq.respectTransparency.types false in
/-- From any memory with all counters at zero, every weakly fair execution of the program on the 32 devices ends, with
    the arguments unchanged, the sums in the result, and all counters at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = OUT (xs m) (ws m) c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (region m) rfl c]; exact .rfl)
    (by simp only [segs, Pipeline.Seg.pipes_host, Pipeline.Seg.pipes_region, Pipeline.Seg.pipes_nil]; decide)
    (O₀ := O₀) (hL := L_of_ne) (G := atZero funds) (u₀ := u₀ (F := F))
    (hu₀ := by
      unfold u₀
      rw [bigSep_atZero]
      iintro Hu
      ihave H := (ownU_pair _ _) $$ Hu
      icases H with ⟨HP, HX⟩
      ihave HX' := (own_pair_emb embR (launchOf bars copies duties) 1) $$ HX
      icases HX' with ⟨HX', -⟩
      imodintro
      isplitl [HP] <;> iassumption)
    (T₀ := T₀ m) (Tₙ := Tₙ m)
    (hch := ⟨fun c => .rfl, fun c => region_pre m c, fun c => region_post m c⟩)
    (hinit := init m ρ)
    (QY := fun c s => (s.mem ((c : Thread nD τ).loc main_arg0) = V₂ m c (Proc.devRef .tc main_arg0)
        ∧ s.mem ((c : Thread nD τ).loc main_arg1) = V₂ m c (Proc.devRef .tc main_arg1)
        ∧ s.mem ((c : Thread nD τ).loc main_v3) = V₂ m c (Proc.devRef .tc main_v3)) ∧ s.sem (barCell c) = 0)
    (hfin := fun c s' => by
      dsimp only [Tₙ]; rw [held_eq]
      iintro ⟨⟨⟨H0, H1, -, -, H3⟩, Hb⟩, HSI⟩
      icombine HSI H0 gives %h0
      icombine HSI H1 gives %h1
      icombine HSI H3 gives %h3
      icombine HSI Hb gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        rw [V₂_arg0] at h0; rw [V₂_arg1] at h1; rw [V₂_v3] at h3
        exact ⟨h0, h1, h3⟩,
      sem_eq_zero hs fun c sm hsm => by
        obtain rfl := unscoped_eq sm hsm
        exact (h c).2⟩)

end Cert.KernelIdeal.Hand

end
-- ==== Proof.Frames.lean ====
module

public import proofs.«01_k».proof.Defs
public import proofs.«01_k».proof.Proof.Launch
public import proofs.«01_k».proof.Proof.Gen.Kernel
public import proofs.«01_k».proof.Proof.Gen.ReferenceIdeal.Run

@[expose] public section

noncomputable section

/-!
# The three programs run

The kernel as printed and the kernel over exact values have the same text, so one run over any float values serves
both. The reference is host code only.
-/

namespace Cert.Proof

open Idealize.ShloMosaic Idealize.SL.Sem

theorem frame_kernel : Cert.quiescent_Kernel := fun m ρ _ =>
  (θ_run Cert.KernelIdeal.defs _ _).mono (fun _ h => ⟨fun c => ⟨(h.1 c).1, (h.1 c).2.1⟩, h.2⟩) (Cert.KernelIdeal.Hand.run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Hand.run_main (F := Ideal) m ρ)

theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

end Cert.Proof

end
-- ==== Proof.Product.lean ====
module

public import proofs.«01_k».proof.Proof.Launch
public import Idealize.ShloMosaic.Lib.Pointwise

@[expose] public section

set_option maxRecDepth 16384

noncomputable section

/-!
# The result is a product

Over exact values: each block that is sent is a block of the product over the sender's half of the contraction (`SND`),
what a device keeps is such a product too (`ACC`), and the result is the sum of what is kept and what the peer sent.
-/

namespace Cert.KernelIdeal.Hand

open Cert.KernelIdeal.Gen
open Idealize.ShloMosaic Idealize.ShloMosaic.TcCoe

/-! ## What the stored vectors are, at an index -/

theorem pay2_at (a : Vec Ideal S1x1024x128 .f32) (b : Vec Ideal S1024x512 .bf16) (j : S1x128x512.Idx) :
    k0_pay2 (F := Ideal) a b j = ∑ k : Fin 1024, a (ix3 0 k (j 1)) * b (ix2 k (j 2)) := by
  pointwise [k0_pay2]

theorem pay4_at (a : Vec Ideal S1x1024x128 .f32) (b : Vec Ideal S1024x512 .bf16) (j : S1x128x512.Idx) :
    k0_pay4 (F := Ideal) a b j = ∑ k : Fin 1024, a (ix3 0 k (j 1)) * b (ix2 k (j 2)) := by
  pointwise [k0_pay4]

theorem pay7_at (a : Vec Ideal S1x1024x128 .f32) (b : Vec Ideal S1024x1024 .bf16) (j : S1x128x1024.Idx) :
    k0_pay7 (F := Ideal) a b j = ∑ k : Fin 1024, a (ix3 0 k (j 1)) * b (ix2 k (j 2)) := by
  pointwise [k0_pay7]

theorem pay10_at (a : Vec Ideal S1x1024x128 .f32) (b : Vec Ideal S1024x2048 .bf16) (j : S1x128x2048.Idx) :
    k0_pay10 (F := Ideal) a b j = ∑ k : Fin 1024, a (ix3 0 k (j 1)) * b (ix2 k (j 2)) := by
  pointwise [k0_pay10]

theorem pay17_at (a : Vec Ideal S1x1024x512 .f32) (b : Vec Ideal S1024x2048 .bf16) (j : S1x512x2048.Idx) :
    k0_pay17 (F := Ideal) (k0_pay16 a) b j = ∑ k : Fin 1024, a (ix3 0 k (j 1)) * b (ix2 k (j 2)) := by
  pointwise [k0_pay17, k0_pay16]

theorem pay18_at (a : Vec Ideal S1x1024x512 .f32) (b : Vec Ideal S1024x2048 .bf16) (j : S1x512x2048.Idx) :
    k0_pay18 (F := Ideal) a b j = ∑ k : Fin 1024, a (ix3 0 k (j 1)) * b (ix2 k (j 2)) := by
  pointwise [k0_pay18]

theorem pay20_at (a : Vec Ideal S1x128x512 .f32) (b : Vec Ideal S1x128x512 .bf16) (j : S1x128x512.Idx) :
    k0_pay20 (F := Ideal) (k0_pay19 a) b j = a j + b j := by
  pointwise [k0_pay20, k0_pay19]

theorem pay24_at (a : Vec Ideal S1x128x1024 .f32) (b : Vec Ideal S1x128x1024 .bf16) (j : S1x128x1024.Idx) :
    k0_pay24 (F := Ideal) (k0_pay23 a) b j = a j + b j := by
  pointwise [k0_pay24, k0_pay23]

theorem pay26_at (a : Vec Ideal S1x128x2048 .f32) (b : Vec Ideal S1x128x2048 .bf16) (j : S1x128x2048.Idx) :
    k0_pay26 (F := Ideal) (k0_pay25 a) b j = a j + b j := by
  pointwise [k0_pay26, k0_pay25]

/-! ## The product over one device's half of the contraction -/

/-- The row of the activation behind row `r` of what device `c` sends, and behind row `r` of what it keeps. -/
def rowP (c : Dev nD) (r : Fin 512) : Fin 1024 := ⟨r.val + 512 - 512 * (c.val / 16), by have := r.isLt; omega⟩
def rowO (c : Dev nD) (r : Fin 512) : Fin 1024 := ⟨512 * (c.val / 16) + r.val, by have := r.isLt; have : c.val < 32 := c.isLt; omega⟩

/-- One entry of the product. -/
def dot1 (X : Xs Ideal) (W : Ws Ideal) (b : Fin 2) (s : Fin 1024) (n : Fin 2048) : EReal := ∑ k : Fin 1024, X (ix3 b k s) * W (ix2 k n)

/-! The loads, at an index -/

theorem T0_at (c : Dev nD) (r : Fin 4) (X : Xs Ideal) (k : Fin 1024) (n : Fin 128) (s : Fin 1024) (hs : s.val = 128 * r.val + n.val + 512 - 512 * (c.val / 16)) :
    tM.view.readAt (Elt Ideal) (T0 c r).toLoadRect X (ix3 0 k n) = X (ix3 0 k s) := by
  refine congrArg X (funext fun a => Fin.ext ?_)
  have h := k0_off1_eq c r
  have : c.val < 32 := c.isLt
  fin_cases a
  · show k0_off1 c (BitVec.ofNat 32 (128 * r.val)) 0 + 1 * 0 = 0
    rw [h]; rfl
  · show k0_off1 c (BitVec.ofNat 32 (128 * r.val)) 1 + 1 * k.val = k.val
    rw [h]; show 0 + 1 * k.val = k.val; omega
  · show k0_off1 c (BitVec.ofNat 32 (128 * r.val)) 2 + 1 * n.val = s.val
    rw [h]; show (128 * r.val + 512) - 512 * (c.val / 16) + 1 * n.val = s.val; omega

theorem T1_at (c : Dev nD) (r : Fin 4) (X : Xs Ideal) (k : Fin 1024) (n : Fin 128) (s : Fin 1024) (hs : s.val = 128 * r.val + n.val + 512 - 512 * (c.val / 16)) :
    tM.view.readAt (Elt Ideal) (T1 c r).toLoadRect X (ix3 0 k n) = X (ix3 1 k s) := by
  refine congrArg X (funext fun a => Fin.ext ?_)
  have h := k0_off2_eq c r
  have : c.val < 32 := c.isLt
  fin_cases a
  · show k0_off2 c (BitVec.ofNat 32 (128 * r.val)) 0 + 1 * 0 = 1
    rw [h]; rfl
  · show k0_off2 c (BitVec.ofNat 32 (128 * r.val)) 1 + 1 * k.val = k.val
    rw [h]; show 0 + 1 * k.val = k.val; omega
  · show k0_off2 c (BitVec.ofNat 32 (128 * r.val)) 2 + 1 * n.val = s.val
    rw [h]; show (128 * r.val + 512) - 512 * (c.val / 16) + 1 * n.val = s.val; omega

theorem T2_at (c : Dev nD) (X : Xs Ideal) (k : Fin 1024) (n : Fin 512) :
    tM.view.readAt (Elt Ideal) (T2 c).toLoadRect X (ix3 0 k n) = X (ix3 0 k (rowO c n)) := by
  refine congrArg X (funext fun a => Fin.ext ?_)
  have h := k0_off3_eq c
  fin_cases a
  · show k0_off3 c 0 + 1 * 0 = 0
    rw [h]; rfl
  · show k0_off3 c 1 + 1 * k.val = k.val
    rw [h]; show 0 + 1 * k.val = k.val; omega
  · show k0_off3 c 2 + 1 * n.val = 512 * (c.val / 16) + n.val
    rw [h]; show 512 * (c.val / 16) + 1 * n.val = _; omega

theorem T3_at (c : Dev nD) (X : Xs Ideal) (k : Fin 1024) (n : Fin 512) :
    tM.view.readAt (Elt Ideal) (T3 c).toLoadRect X (ix3 0 k n) = X (ix3 1 k (rowO c n)) := by
  refine congrArg X (funext fun a => Fin.ext ?_)
  have h := k0_off4_eq c
  fin_cases a
  · show k0_off4 c 0 + 1 * 0 = 1
    rw [h]; rfl
  · show k0_off4 c 1 + 1 * k.val = k.val
    rw [h]; show 0 + 1 * k.val = k.val; omega
  · show k0_off4 c 2 + 1 * n.val = 512 * (c.val / 16) + n.val
    rw [h]; show 512 * (c.val / 16) + 1 * n.val = _; omega

theorem Q_at (o z : ℕ) (inb) (W : Ws Ideal) (k : Fin 1024) (n : Fin z) (n' : Fin 2048) (hn : n'.val = o + n.val) :
    hM.view.readAt (Elt Ideal) (Rect.unit (s := S1024x2048) ![0, o] ![1024, z] inb).toLoadRect (W16 W) (ix2 k n) = W (ix2 k n') := by
  refine congrArg W (funext fun a => Fin.ext ?_)
  fin_cases a
  · show 0 + 1 * k.val = k.val; omega
  · show o + 1 * n.val = n'.val; omega

section

variable (x : Dev nD → Xs Ideal) (w : Dev nD → Ws Ideal)

/-- What device `c` sends, and what it keeps, at an index of the blocks' buffer. -/
def SND (c : Dev nD) (j : S2x512x2048.Idx) : EReal := dot1 (x c) (w c) (j 0) (rowP c (j 1)) (j 2)
def ACC (c : Dev nD) (j : S2x512x2048.Idx) : EReal := dot1 (x c) (w c) (j 0) (rowO c (j 1)) (j 2)

/-- A piece of what is sent, from batch 0 or batch 1 of the activation. -/
theorem piece0 (c : Dev nD) (r : Fin 4) (o z : ℕ) (inb) (inb') (j : (⟨3, ![1, 128, z]⟩ : Shape).Idx) :
    (∑ k : Fin 1024, tM.view.readAt (Elt Ideal) (T0 c r).toLoadRect (x c) (ix3 0 k (j 1))
        * hM.view.readAt (Elt Ideal) (Rect.unit (s := S1024x2048) ![0, o] ![1024, z] inb).toLoadRect (W16 (w c)) (ix2 k (j 2)))
      = SND x w c ((Rect.unit (s := S2x512x2048) ![0, 128 * r.val, o] ![1, 128, z] inb').idx j) := by
  have h0 : (j 0).val < 1 := (j 0).isLt
  have e0 : (Rect.unit (s := S2x512x2048) ![0, 128 * r.val, o] ![1, 128, z] inb').idx j 0 = (0 : Fin 2) :=
    Fin.ext (show 0 + 1 * (j 0).val = 0 by omega)
  unfold SND
  rw [e0]
  unfold dot1
  refine Finset.sum_congr rfl fun k _ => ?_
  refine congrArg₂ (· * ·) (T0_at c r (x c) k (j 1) _ ?_) (Q_at o z inb (w c) k (j 2) _ ?_)
  · show 128 * r.val + 1 * (j 1).val + 512 - _ = _; omega
  · show o + 1 * (j 2).val = _; omega

theorem piece1 (c : Dev nD) (r : Fin 4) (o z : ℕ) (inb) (inb') (j : (⟨3, ![1, 128, z]⟩ : Shape).Idx) :
    (∑ k : Fin 1024, tM.view.readAt (Elt Ideal) (T1 c r).toLoadRect (x c) (ix3 0 k (j 1))
        * hM.view.readAt (Elt Ideal) (Rect.unit (s := S1024x2048) ![0, o] ![1024, z] inb).toLoadRect (W16 (w c)) (ix2 k (j 2)))
      = SND x w c ((Rect.unit (s := S2x512x2048) ![1, 128 * r.val, o] ![1, 128, z] inb').idx j) := by
  have h0 : (j 0).val < 1 := (j 0).isLt
  have e0 : (Rect.unit (s := S2x512x2048) ![1, 128 * r.val, o] ![1, 128, z] inb').idx j 0 = (1 : Fin 2) :=
    Fin.ext (show 1 + 1 * (j 0).val = 1 by omega)
  unfold SND
  rw [e0]
  unfold dot1
  refine Finset.sum_congr rfl fun k _ => ?_
  refine congrArg₂ (· * ·) (T1_at c r (x c) k (j 1) _ ?_) (Q_at o z inb (w c) k (j 2) _ ?_)
  · show 128 * r.val + 1 * (j 1).val + 512 - _ = _; omega
  · show o + 1 * (j 2).val = _; omega

/-- One piece that agrees with `X` leaves `X` on its block. -/
theorem canon_one {e : EltTy} (r : Rect S2x512x2048) (i : Fin 10) (hr : r = R i) (v : r.shape.Idx → Elt Ideal e) (X : S2x512x2048.Idx → Elt Ideal e)
    (h : ∀ k, v k = X (r.idx k)) (j : S2x512x2048.Idx) (hj : blkOf j = i) :
    View.canon (Val := Elt Ideal) [⟨r, v⟩] j = X j :=
  canon_of_all X _ j ⟨_, List.mem_singleton_self _, by subst hr; exact (mem_R i j).mpr hj⟩
    fun p hp k => by obtain rfl := List.mem_singleton.mp hp; exact h k

/-- A sent block holds the product on its elements; -/
theorem snd_at (c : Dev nD) (i : Fin 10) (j : S2x512x2048.Idx) (hj : blkOf j = i) : snd x w c i j = SND x w c j := by
  fin_cases i
  · refine canon_one (e := .bf16) R0 0 rfl _ (SND x w c) ?_ j hj
    exact fun k => (pay2_at ..).trans (piece0 x w c 0 0 512 _ _ k)
  · refine canon_one (e := .bf16) R1 1 rfl _ (SND x w c) ?_ j hj
    exact fun k => (pay4_at ..).trans (piece0 x w c 0 512 512 _ _ k)
  · refine canon_one (e := .bf16) R2 2 rfl _ (SND x w c) ?_ j hj
    exact fun k => (pay7_at ..).trans (piece0 x w c 0 1024 1024 _ _ k)
  · refine canon_one (e := .bf16) R3 3 rfl _ (SND x w c) ?_ j hj
    exact fun k => (pay10_at ..).trans (piece0 x w c 1 0 2048 _ _ k)
  · refine canon_one (e := .bf16) R4 4 rfl _ (SND x w c) ?_ j hj
    exact fun k => (pay10_at ..).trans (piece0 x w c 2 0 2048 _ _ k)
  · refine canon_one (e := .bf16) R5 5 rfl _ (SND x w c) ?_ j hj
    exact fun k => (pay10_at ..).trans (piece0 x w c 3 0 2048 _ _ k)
  · refine canon_one (e := .bf16) R6 6 rfl _ (SND x w c) ?_ j hj
    exact fun k => (pay10_at ..).trans (piece1 x w c 0 0 2048 _ _ k)
  · refine canon_one (e := .bf16) R7 7 rfl _ (SND x w c) ?_ j hj
    exact fun k => (pay10_at ..).trans (piece1 x w c 1 0 2048 _ _ k)
  · refine canon_one (e := .bf16) R8 8 rfl _ (SND x w c) ?_ j hj
    exact fun k => (pay10_at ..).trans (piece1 x w c 2 0 2048 _ _ k)
  · refine canon_one (e := .bf16) R9 9 rfl _ (SND x w c) ?_ j hj
    exact fun k => (pay10_at ..).trans (piece1 x w c 3 0 2048 _ _ k)

/-- so does the kept half; -/
theorem acc_at (c : Dev nD) (j : S2x512x2048.Idx) : acc x w c j = ACC x w c j := by
  have h0 : (j 0).val < 2 := (j 0).isLt
  have h1 : (j 1).val < 512 := (j 1).isLt
  have h2 : (j 2).val < 2048 := (j 2).isLt
  unfold acc
  refine canon_of_all (Val := Elt Ideal) (e := .f32) (ACC x w c) _ j ?_ fun p hp => ?_
  · by_cases h : (j 0).val = 0
    · refine ⟨_, List.mem_cons_of_mem _ (List.mem_singleton_self _), (mem_unit (inb := inb_S2x512x2048_S1x512x2048_0_0_0)).mpr fun a => ?_⟩
      fin_cases a
      · show 0 ≤ (j 0).val ∧ (j 0).val < 0 + 1; omega
      · show 0 ≤ (j 1).val ∧ (j 1).val < 0 + 512; omega
      · show 0 ≤ (j 2).val ∧ (j 2).val < 0 + 2048; omega
    · refine ⟨_, List.mem_cons_self, (mem_unit (inb := inb_S2x512x2048_S1x512x2048_1_0_0)).mpr fun a => ?_⟩
      fin_cases a
      · show 1 ≤ (j 0).val ∧ (j 0).val < 1 + 1; omega
      · show 0 ≤ (j 1).val ∧ (j 1).val < 0 + 512; omega
      · show 0 ≤ (j 2).val ∧ (j 2).val < 0 + 2048; omega
  · rcases List.mem_cons.mp hp with rfl | hp
    · intro k
      have hk : (k 0).val < 1 := (k 0).isLt
      have e0 : A1.idx k 0 = (1 : Fin 2) := Fin.ext (show 1 + 1 * (k 0).val = 1 by omega)
      refine (pay18_at ..).trans ?_
      unfold ACC
      rw [e0]
      unfold dot1
      refine Finset.sum_congr rfl fun q _ => congrArg₂ (· * ·) ((T3_at c (x c) q (k 1)).trans ?_) (Q_at 0 2048 _ (w c) q (k 2) _ ?_)
      · exact congrArg (fun s => x c (ix3 1 q (rowO c s))) (Fin.ext (show (k 1).val = 0 + 1 * (k 1).val by omega))
      · show 0 + 1 * (k 2).val = _; omega
    · obtain rfl := List.mem_singleton.mp hp
      intro k
      have hk : (k 0).val < 1 := (k 0).isLt
      have e0 : A0.idx k 0 = (0 : Fin 2) := Fin.ext (show 0 + 1 * (k 0).val = 0 by omega)
      refine (pay17_at ..).trans ?_
      unfold ACC
      rw [e0]
      unfold dot1
      refine Finset.sum_congr rfl fun q _ => congrArg₂ (· * ·) ((T2_at c (x c) q (k 1)).trans ?_) (Q_at 0 2048 _ (w c) q (k 2) _ ?_)
      · exact congrArg (fun s => x c (ix3 0 q (rowO c s))) (Fin.ext (show (k 1).val = 0 + 1 * (k 1).val by omega))
      · show 0 + 1 * (k 2).val = _; omega

/-! Loads of whole blocks, at an index -/

theorem aM_at (r : Rect S2x512x2048) (f : S2x512x2048.Idx → Elt Ideal .f32) (k : r.shape.Idx) :
    aM.view.readAt (Elt Ideal) r.toLoadRect f k = f (r.idx k) := rfl
theorem rM_at (r : Rect S2x512x2048) (f : S2x512x2048.Idx → Elt Ideal .bf16) (k : r.shape.Idx) :
    rM.view.readAt (Elt Ideal) r.toLoadRect f k = f (r.idx k) := rfl

/-- An element of a block is in that block. -/
theorem blk_idx (i : Fin 10) (k : (R i).shape.Idx) : blkOf ((R i).idx k) = i :=
  (mem_R i _).mp ((LoadRect.mem_set ..).mpr fun a => ⟨(k a).val, (k a).isLt, rfl⟩)

/-- A sum of the two, on a block. -/
theorem sum_piece (c : Dev nD) (i : Fin 10) (r : Rect S2x512x2048) (hr : r = R i) (k : r.shape.Idx) (a b : EReal)
    (ha : a = acc x w c (r.idx k)) (hb : b = snd x w (peer c) i (r.idx k)) :
    a + b = ACC x w c (r.idx k) + SND x w (peer c) (r.idx k) := by
  subst hr
  rw [ha, hb, acc_at, snd_at x w (peer c) i _ (blk_idx i k)]

/-- a result block holds the sum of the two; -/
theorem out_at (c : Dev nD) (i : Fin 10) (j : S2x512x2048.Idx) (hj : blkOf j = i) : out x w c i j = ACC x w c j + SND x w (peer c) j := by
  fin_cases i
  · refine canon_one (e := .bf16) R0 0 rfl _ (fun j => ACC x w c j + SND x w (peer c) j) ?_ j hj
    exact fun k => (pay20_at ..).trans (sum_piece x w c 0 R0 rfl k _ _ (aM_at ..) (rM_at ..))
  · refine canon_one (e := .bf16) R1 1 rfl _ (fun j => ACC x w c j + SND x w (peer c) j) ?_ j hj
    exact fun k => (pay20_at ..).trans (sum_piece x w c 1 R1 rfl k _ _ (aM_at ..) (rM_at ..))
  · refine canon_one (e := .bf16) R2 2 rfl _ (fun j => ACC x w c j + SND x w (peer c) j) ?_ j hj
    exact fun k => (pay24_at ..).trans (sum_piece x w c 2 R2 rfl k _ _ (aM_at ..) (rM_at ..))
  · refine canon_one (e := .bf16) R3 3 rfl _ (fun j => ACC x w c j + SND x w (peer c) j) ?_ j hj
    exact fun k => (pay26_at ..).trans (sum_piece x w c 3 R3 rfl k _ _ (aM_at ..) (rM_at ..))
  · refine canon_one (e := .bf16) R4 4 rfl _ (fun j => ACC x w c j + SND x w (peer c) j) ?_ j hj
    exact fun k => (pay26_at ..).trans (sum_piece x w c 4 R4 rfl k _ _ (aM_at ..) (rM_at ..))
  · refine canon_one (e := .bf16) R5 5 rfl _ (fun j => ACC x w c j + SND x w (peer c) j) ?_ j hj
    exact fun k => (pay26_at ..).trans (sum_piece x w c 5 R5 rfl k _ _ (aM_at ..) (rM_at ..))
  · refine canon_one (e := .bf16) R6 6 rfl _ (fun j => ACC x w c j + SND x w (peer c) j) ?_ j hj
    exact fun k => (pay26_at ..).trans (sum_piece x w c 6 R6 rfl k _ _ (aM_at ..) (rM_at ..))
  · refine canon_one (e := .bf16) R7 7 rfl _ (fun j => ACC x w c j + SND x w (peer c) j) ?_ j hj
    exact fun k => (pay26_at ..).trans (sum_piece x w c 7 R7 rfl k _ _ (aM_at ..) (rM_at ..))
  · refine canon_one (e := .bf16) R8 8 rfl _ (fun j => ACC x w c j + SND x w (peer c) j) ?_ j hj
    exact fun k => (pay26_at ..).trans (sum_piece x w c 8 R8 rfl k _ _ (aM_at ..) (rM_at ..))
  · refine canon_one (e := .bf16) R9 9 rfl _ (fun j => ACC x w c j + SND x w (peer c) j) ?_ j hj
    exact fun k => (pay26_at ..).trans (sum_piece x w c 9 R9 rfl k _ _ (aM_at ..) (rM_at ..))

/-- The peer sends the other half of the contraction for the rows that a device keeps. -/
theorem rowP_peer (c : Dev nD) (r : Fin 512) : rowP (peer c) r = rowO c r := by
  have h : c.val < 32 := c.isLt
  have hp : (peer c).val = (c.val + 16) % 32 := rfl
  refine Fin.ext ?_
  show r.val + 512 - 512 * ((peer c).val / 16) = 512 * (c.val / 16) + r.val
  rw [hp]
  omega

/-- and so does the whole result. -/
theorem OUT_at (c : Dev nD) (j : S2x512x2048.Idx) :
    OUT x w c j = dot1 (x c) (w c) (j 0) (rowO c (j 1)) (j 2) + dot1 (x (peer c)) (w (peer c)) (j 0) (rowO c (j 1)) (j 2) := by
  refine (out_at x w c _ j rfl).trans ?_
  exact congrArg (fun s => dot1 (x c) (w c) (j 0) (rowO c (j 1)) (j 2) + dot1 (x (peer c)) (w (peer c)) (j 0) s (j 2)) (rowP_peer c (j 1))

end

end Cert.KernelIdeal.Hand

end
-- ==== Proof.Value.lean ====
module

public import proofs.«01_k».proof.Defs
public import proofs.«01_k».proof.Proof.Product
public import proofs.«01_k».proof.Proof.Gen.ReferenceIdeal.Run
public import Idealize.ShloMosaic.Lib.Claim

@[expose] public section

set_option maxRecDepth 16384

noncomputable section

/-!
# Each device's result is its block of the reference's

The host part gives the kernel the activation with its rows last (`xs_at`). One device's product is one half of the
reference's sum (`dot_half`): which half, the device's first mesh coordinate says. The device and its peer have the two
halves, and the sum of the two is the reference's (`OUT_eq`).
-/

namespace Cert.Proof

open Idealize.ShloMosaic Idealize.ShloMosaic.TcCoe Idealize.SL.Sem
open Cert.KernelIdeal.Hand

section Kernel

open Cert.KernelIdeal Cert.KernelIdeal.Gen

variable (m : (ℓ : Loc nD τ sig) → Buf (Elt Ideal) ℓ)

/-- What the host part leaves for the kernel, -/
theorem xs_eq (c : Dev nD) : xs m c = shapeCast S2x1024x1024
    (transpose S2x16x64x1024 [0, 2, 3, 1] (m ((c : Thread nD τ).loc main_arg0)) transposes_S2x1024x16x64_S2x16x64x1024_0_2_3_1) shapeCasts_S2x16x64x1024_S2x1024x1024 := by
  show StableHlo.after hostOps0 (V₀ m c) (Proc.devRef .tc main_v2) = _
  after_results <;> rfl

/-- at an index. -/
theorem xs_at (c : Dev nD) (b : Fin 2) (k s : Fin 1024) :
    xs m c (ix3 b k s) = m ((c : Thread nD τ).loc main_arg0) (ix4 b s (⟨k.val / 64, by omega⟩ : Fin 16) (⟨k.val % 64, by omega⟩ : Fin 64)) := by
  rw [xs_eq]
  pointwise

theorem ws_at (c : Dev nD) : ws m c = m ((c : Thread nD τ).loc main_arg1) := Gen.V_main_arg1 m c

end Kernel

section Reference
open Cert.ReferenceIdeal Cert.ReferenceIdeal.Gen Cert.ReferenceIdeal.Facts

/-- The reference's result. -/
def refV (X : FVec Ideal S2x1024x32x64 .f32) (W : FVec Ideal S2048x2048 .f32) : FVec Ideal S2x1024x2048 .bf16 :=
  truncf .bf16 (Host.dotGeneral dot_S2x1024x2048_S2048x2048_S2x1024x2048_2_0_01_1_n_n none (shapeCast _ X shapeCasts_S2x1024x32x64_S2x1024x2048) W) bitsLt_bf16_f32

/-- The reference's result at an index. -/
theorem ref_at (X : FVec Ideal S2x1024x32x64 .f32) (W : FVec Ideal S2048x2048 .f32) (b : Fin 2) (s : Fin 1024) (n : Fin 2048) :
    refV X W (ix3 b s n) = ∑ K : Fin 2048, X (ix4 b s (⟨K.val / 64, by omega⟩ : Fin 32) (⟨K.val % 64, by omega⟩ : Fin 64)) * W (ix2 K n) := by
  pointwise [refV]
end Reference

section Equation

open Cert.ReferenceIdeal Cert.ReferenceIdeal.Gen Cert.ReferenceIdeal.Facts

variable (X : FVec Ideal S2x1024x32x64 .f32) (W : FVec Ideal S2048x2048 .f32)

/-- One term of the reference's sum. -/
def term (b : Fin 2) (s : Fin 1024) (n : Fin 2048) (K : Fin 2048) : EReal :=
  X (ix4 b s (⟨K.val / 64, by omega⟩ : Fin 32) (⟨K.val % 64, by omega⟩ : Fin 64)) * W (ix2 K n)

/-- A device's first mesh coordinate. -/
theorem mesh0 (c : Fin 32) : Layout.meshLin [2, 4, 4] c.val [0] = c.val / 16 := by
  show (c.val / 16) % 2 * 1 + 0 = c.val / 16
  have := c.isLt
  omega

variable (m : (ℓ : Loc Cert.KernelIdeal.nD Cert.KernelIdeal.τ Cert.KernelIdeal.sig) → Buf (Elt Ideal) ℓ)
  (h0 : ∀ c : Dev Cert.KernelIdeal.nD, m ((c.tc : Thread Cert.KernelIdeal.nD Cert.KernelIdeal.τ).loc Cert.KernelIdeal.main_arg0)
    = Layout.blockN ⟨4, ![2, 1024, 16, 64]⟩ ⟨4, ![2, 1024, 32, 64]⟩ (Layout.meshBlock [2, 4, 4] ![[], [], [0], []] c) X)
  (h1 : ∀ c : Dev Cert.KernelIdeal.nD, m ((c.tc : Thread Cert.KernelIdeal.nD Cert.KernelIdeal.τ).loc Cert.KernelIdeal.main_arg1)
    = Layout.blockN ⟨2, ![1024, 2048]⟩ ⟨2, ![2048, 2048]⟩ (Layout.meshBlock [2, 4, 4] ![[0], []] c) W)

include h0 h1 in
/-- A device's product is the half of the sum that its first mesh coordinate names. -/
theorem dot_half (c : Dev Cert.KernelIdeal.nD) (b : Fin 2) (s : Fin 1024) (n : Fin 2048) (h : ℕ) (hh : c.val / 16 = h) (h2 : h < 2) :
    dot1 (xs m c) (ws m c) b s n = ∑ k : Fin 1024, term X W b s n ⟨1024 * h + k.val, by have := k.isLt; omega⟩ := by
  unfold dot1 term
  refine Finset.sum_congr rfl fun k _ => ?_
  have hk := k.isLt
  have hc := mesh0 c
  rw [xs_at, ws_at, h0, h1, Layout.blockN_apply, Layout.blockN_apply]
  refine congrArg₂ (fun i j => X i * W j) (funext fun a => Fin.ext ?_) (funext fun a => Fin.ext ?_)
  · fin_cases a
    · show 0 * 2 + b.val = b.val; omega
    · show 0 * 1024 + s.val = s.val; omega
    · show Layout.meshLin [2, 4, 4] c.val [0] * 16 + k.val / 64 = (1024 * h + k.val) / 64; omega
    · show 0 * 64 + k.val % 64 = (1024 * h + k.val) % 64; omega
  · fin_cases a
    · show Layout.meshLin [2, 4, 4] c.val [0] * 1024 + k.val = 1024 * h + k.val; omega
    · show 0 * 2048 + n.val = n.val; omega

include h0 h1 in
/-- A device's result is its block of the reference's: its own half of the contraction and the peer's make the whole. -/
theorem OUT_eq (c : Dev Cert.KernelIdeal.nD) : OUT (xs m) (ws m) c
    = Layout.blockN ⟨3, ![2, 512, 2048]⟩ ⟨3, ![2, 1024, 2048]⟩ (Layout.meshBlock [2, 4, 4] ![[], [0], []] c) (refV X W) := by
  funext j
  have hc := mesh0 c
  have hlt : c.val < 32 := c.isLt
  have hp : (peer c).val = (c.val + 16) % 32 := rfl
  rw [OUT_at, Layout.blockN_apply]
  have e : (Layout.TilesN.idx (S := ⟨3, ![2, 512, 2048]⟩) (T := ⟨3, ![2, 1024, 2048]⟩) (by decide) (Layout.meshBlock [2, 4, 4] ![[], [0], []] c) j)
      = ix3 (j 0) (rowO c (j 1)) (j 2) := by
    refine funext fun a => Fin.ext ?_
    fin_cases a
    · show 0 * 2 + (j 0).val = (j 0).val; omega
    · show Layout.meshLin [2, 4, 4] c.val [0] * 512 + (j 1).val = 512 * (c.val / 16) + (j 1).val; omega
    · show 0 * 2048 + (j 2).val = (j 2).val; omega
  refine Eq.trans ?_ (congrArg (refV X W) e).symm
  refine Eq.trans ?_ (ref_at X W (j 0) (rowO c (j 1)) (j 2)).symm
  refine Eq.trans ?_ (Fin.sum_univ_two_halves 1024 1024 rfl (term X W (j 0) (rowO c (j 1)) (j 2))).symm
  have z : ∀ s, (∑ k : Fin 1024, term X W (j 0) s (j 2) ⟨1024 * 0 + k.val, by have := k.isLt; omega⟩) = ∑ k : Fin 1024, term X W (j 0) s (j 2) ⟨k.val, by have := k.isLt; omega⟩ :=
    fun s => Finset.sum_congr rfl fun k _ => congrArg _ (Fin.ext (by show 1024 * 0 + k.val = k.val; omega))
  rcases (by omega : c.val / 16 = 0 ∨ c.val / 16 = 1) with h | h
  · exact congrArg₂ (· + ·) ((dot_half X W m h0 h1 c _ _ _ 0 h (by decide)).trans (z _)) (dot_half X W m h0 h1 (peer c) _ _ _ 1 (by omega) (by decide))
  · exact (congrArg₂ (· + ·) (dot_half X W m h0 h1 c _ _ _ 1 h (by decide)) ((dot_half X W m h0 h1 (peer c) _ _ _ 0 (by omega) (by decide)).trans (z _))).trans (add_comm _ _)

end Equation

/-- Over exact values every device ends with its block of the reference's result. -/
theorem algebraic : Cert.algebraic_KernelIdeal_ReferenceIdeal := fun m ρ m' ρ' _ hargs =>
  ⟨_, (θ_run Cert.KernelIdeal.defs _ _).mono (fun _ h c => ⟨((h.1 c).2.2).trans (OUT_eq _ _ m (fun c => (hargs c).1) (fun c => (hargs c).2) c), (h.1 c).1, (h.1 c).2.1⟩)
      (run_main (F := Ideal) m ρ),
    (θ_run Cert.ReferenceIdeal.defs _ _).mono (fun _ h => ⟨(h 0).1, (h 0).2.1, (h 0).2.2⟩) (Cert.ReferenceIdeal.Value.run (F := Ideal) m' ρ')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_ideal, frame_reference, trivial, algebraic⟩

end Cert.Proof

end
